-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S32x16x512 : Shape := ⟨3, ![32, 16, 512]⟩
abbrev S32 : Shape := ⟨1, ![32]⟩
abbrev S_ : Shape := ⟨0, ![]⟩
abbrev S1 : Shape := ⟨1, ![1]⟩
abbrev S1x16x512 : Shape := ⟨3, ![1, 16, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S1024x512, .f32⟩
  | .hbm, ⟨3, _⟩ => ⟨S512x512, .f32⟩
  | .local _ .vmem, ⟨0, _⟩ => ⟨S512x512, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .bf16⟩
  | .local _ .vmem, ⟨5, _⟩ => ⟨S32x16x512, .bf16⟩
  | .local _ .vmem, ⟨6, _⟩ => ⟨S32x16x512, .bf16⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_289 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v425 : BitVec 32 := Scalar.addi v2 c1_i32_289
  let c32_i32_290 : BitVec 32 := 32#32
  let c0_i32_291 : BitVec 32 := 0#32
  let v426 : BitVec 1 := Scalar.cmpi .eq c32_i32_290 c0_i32_291
  let c1_i32_292 : BitVec 32 := 1#32
  let v427 : BitVec 32 := Scalar.select v426 c1_i32_292 c32_i32_290
  let v428 : BitVec 32 := Scalar.remsi v425 v427
  let c0_i32_294 : BitVec 32 := 0#32
  let v430 : BitVec 1 := Scalar.cmpi .slt v428 c0_i32_294
  let c0_i32_295 : BitVec 32 := 0#32
  let v431 : BitVec 1 := Scalar.cmpi .slt v427 c0_i32_295
  let v432 : BitVec 1 := Scalar.xori v430 v431
  let c0_i32_293 : BitVec 32 := 0#32
  let v429 : BitVec 1 := Scalar.cmpi .ne v428 c0_i32_293
  let v433 : BitVec 1 := Scalar.andi v432 v429
  let v434 : BitVec 32 := Scalar.addi v428 v427
  let v435 : BitVec 32 := Scalar.select v433 v434 v428
  let c16_i32_296 : BitVec 32 := 16#32
  let v436 : BitVec 32 := Scalar.muli v435 c16_i32_296
  let c0_i32_304 : BitVec 32 := 0#32
  ![v436.toNat, 0]
def k0_dev32 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_289 : BitVec 32 := 1#32
  let v425 : BitVec 32 := Scalar.addi v2 c1_i32_289
  let c32_i32_290 : BitVec 32 := 32#32
  let c0_i32_291 : BitVec 32 := 0#32
  let v426 : BitVec 1 := Scalar.cmpi .eq c32_i32_290 c0_i32_291
  let c1_i32_292 : BitVec 32 := 1#32
  let v427 : BitVec 32 := Scalar.select v426 c1_i32_292 c32_i32_290
  let v428 : BitVec 32 := Scalar.remsi v425 v427
  let c0_i32_294 : BitVec 32 := 0#32
  let v430 : BitVec 1 := Scalar.cmpi .slt v428 c0_i32_294
  let c0_i32_295 : BitVec 32 := 0#32
  let v431 : BitVec 1 := Scalar.cmpi .slt v427 c0_i32_295
  let v432 : BitVec 1 := Scalar.xori v430 v431
  let c0_i32_293 : BitVec 32 := 0#32
  let v429 : BitVec 1 := Scalar.cmpi .ne v428 c0_i32_293
  let v433 : BitVec 1 := Scalar.andi v432 v429
  let v434 : BitVec 32 := Scalar.addi v428 v427
  let v435 : BitVec 32 := Scalar.select v433 v434 v428
  let c1_i32_300 : BitVec 32 := 1#32
  let v437 : BitVec 32 := Scalar.muli v435 c1_i32_300
  let v438 : BitVec 32 := Scalar.addi c0_i32_301 v437
  v438.toNat
def k0_dev33 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_305 : BitVec 32 := 2#32
  let v446 : BitVec 32 := Scalar.addi v2 c2_i32_305
  let c32_i32_306 : BitVec 32 := 32#32
  let c0_i32_307 : BitVec 32 := 0#32
  let v447 : BitVec 1 := Scalar.cmpi .eq c32_i32_306 c0_i32_307
  let c1_i32_308 : BitVec 32 := 1#32
  let v448 : BitVec 32 := Scalar.select v447 c1_i32_308 c32_i32_306
  let v449 : BitVec 32 := Scalar.remsi v446 v448
  let c0_i32_310 : BitVec 32 := 0#32
  let v451 : BitVec 1 := Scalar.cmpi .slt v449 c0_i32_310
  let c0_i32_311 : BitVec 32 := 0#32
  let v452 : BitVec 1 := Scalar.cmpi .slt v448 c0_i32_311
  let v453 : BitVec 1 := Scalar.xori v451 v452
  let c0_i32_309 : BitVec 32 := 0#32
  let v450 : BitVec 1 := Scalar.cmpi .ne v449 c0_i32_309
  let v454 : BitVec 1 := Scalar.andi v453 v450
  let v455 : BitVec 32 := Scalar.addi v449 v448
  let v456 : BitVec 32 := Scalar.select v454 v455 v449
  let c1_i32_316 : BitVec 32 := 1#32
  let v458 : BitVec 32 := Scalar.muli v456 c1_i32_316
  let v459 : BitVec 32 := Scalar.addi c0_i32_317 v458
  v459.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_321 : BitVec 32 := 3#32
  let v467 : BitVec 32 := Scalar.addi v2 c3_i32_321
  let c32_i32_322 : BitVec 32 := 32#32
  let c0_i32_323 : BitVec 32 := 0#32
  let v468 : BitVec 1 := Scalar.cmpi .eq c32_i32_322 c0_i32_323
  let c1_i32_324 : BitVec 32 := 1#32
  let v469 : BitVec 32 := Scalar.select v468 c1_i32_324 c32_i32_322
  let v470 : BitVec 32 := Scalar.remsi v467 v469
  let c0_i32_326 : BitVec 32 := 0#32
  let v472 : BitVec 1 := Scalar.cmpi .slt v470 c0_i32_326
  let c0_i32_327 : BitVec 32 := 0#32
  let v473 : BitVec 1 := Scalar.cmpi .slt v469 c0_i32_327
  let v474 : BitVec 1 := Scalar.xori v472 v473
  let c0_i32_325 : BitVec 32 := 0#32
  let v471 : BitVec 1 := Scalar.cmpi .ne v470 c0_i32_325
  let v475 : BitVec 1 := Scalar.andi v474 v471
  let v476 : BitVec 32 := Scalar.addi v470 v469
  let v477 : BitVec 32 := Scalar.select v475 v476 v470
  let c1_i32_332 : BitVec 32 := 1#32
  let v479 : BitVec 32 := Scalar.muli v477 c1_i32_332
  let v480 : BitVec 32 := Scalar.addi c0_i32_333 v479
  v480.toNat
def k0_dev35 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_337 : BitVec 32 := 4#32
  let v488 : BitVec 32 := Scalar.addi v2 c4_i32_337
  let c32_i32_338 : BitVec 32 := 32#32
  let c0_i32_339 : BitVec 32 := 0#32
  let v489 : BitVec 1 := Scalar.cmpi .eq c32_i32_338 c0_i32_339
  let c1_i32_340 : BitVec 32 := 1#32
  let v490 : BitVec 32 := Scalar.select v489 c1_i32_340 c32_i32_338
  let v491 : BitVec 32 := Scalar.remsi v488 v490
  let c0_i32_342 : BitVec 32 := 0#32
  let v493 : BitVec 1 := Scalar.cmpi .slt v491 c0_i32_342
  let c0_i32_343 : BitVec 32 := 0#32
  let v494 : BitVec 1 := Scalar.cmpi .slt v490 c0_i32_343
  let v495 : BitVec 1 := Scalar.xori v493 v494
  let c0_i32_341 : BitVec 32 := 0#32
  let v492 : BitVec 1 := Scalar.cmpi .ne v491 c0_i32_341
  let v496 : BitVec 1 := Scalar.andi v495 v492
  let v497 : BitVec 32 := Scalar.addi v491 v490
  let v498 : BitVec 32 := Scalar.select v496 v497 v491
  let c1_i32_348 : BitVec 32 := 1#32
  let v500 : BitVec 32 := Scalar.muli v498 c1_i32_348
  let v501 : BitVec 32 := Scalar.addi c0_i32_349 v500
  v501.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_353 : BitVec 32 := 5#32
  let v509 : BitVec 32 := Scalar.addi v2 c5_i32_353
  let c32_i32_354 : BitVec 32 := 32#32
  let c0_i32_355 : BitVec 32 := 0#32
  let v510 : BitVec 1 := Scalar.cmpi .eq c32_i32_354 c0_i32_355
  let c1_i32_356 : BitVec 32 := 1#32
  let v511 : BitVec 32 := Scalar.select v510 c1_i32_356 c32_i32_354
  let v512 : BitVec 32 := Scalar.remsi v509 v511
  let c0_i32_358 : BitVec 32 := 0#32
  let v514 : BitVec 1 := Scalar.cmpi .slt v512 c0_i32_358
  let c0_i32_359 : BitVec 32 := 0#32
  let v515 : BitVec 1 := Scalar.cmpi .slt v511 c0_i32_359
  let v516 : BitVec 1 := Scalar.xori v514 v515
  let c0_i32_357 : BitVec 32 := 0#32
  let v513 : BitVec 1 := Scalar.cmpi .ne v512 c0_i32_357
  let v517 : BitVec 1 := Scalar.andi v516 v513
  let v518 : BitVec 32 := Scalar.addi v512 v511
  let v519 : BitVec 32 := Scalar.select v517 v518 v512
  let c1_i32_364 : BitVec 32 := 1#32
  let v521 : BitVec 32 := Scalar.muli v519 c1_i32_364
  let v522 : BitVec 32 := Scalar.addi c0_i32_365 v521
  v522.toNat
def k0_dev37 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_369 : BitVec 32 := 6#32
  let v530 : BitVec 32 := Scalar.addi v2 c6_i32_369
  let c32_i32_370 : BitVec 32 := 32#32
  let c0_i32_371 : BitVec 32 := 0#32
  let v531 : BitVec 1 := Scalar.cmpi .eq c32_i32_370 c0_i32_371
  let c1_i32_372 : BitVec 32 := 1#32
  let v532 : BitVec 32 := Scalar.select v531 c1_i32_372 c32_i32_370
  let v533 : BitVec 32 := Scalar.remsi v530 v532
  let c0_i32_374 : BitVec 32 := 0#32
  let v535 : BitVec 1 := Scalar.cmpi .slt v533 c0_i32_374
  let c0_i32_375 : BitVec 32 := 0#32
  let v536 : BitVec 1 := Scalar.cmpi .slt v532 c0_i32_375
  let v537 : BitVec 1 := Scalar.xori v535 v536
  let c0_i32_373 : BitVec 32 := 0#32
  let v534 : BitVec 1 := Scalar.cmpi .ne v533 c0_i32_373
  let v538 : BitVec 1 := Scalar.andi v537 v534
  let v539 : BitVec 32 := Scalar.addi v533 v532
  let v540 : BitVec 32 := Scalar.select v538 v539 v533
  let c1_i32_380 : BitVec 32 := 1#32
  let v542 : BitVec 32 := Scalar.muli v540 c1_i32_380
  let v543 : BitVec 32 := Scalar.addi c0_i32_381 v542
  v543.toNat
def k0_dev38 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_385 : BitVec 32 := 7#32
  let v551 : BitVec 32 := Scalar.addi v2 c7_i32_385
  let c32_i32_386 : BitVec 32 := 32#32
  let c0_i32_387 : BitVec 32 := 0#32
  let v552 : BitVec 1 := Scalar.cmpi .eq c32_i32_386 c0_i32_387
  let c1_i32_388 : BitVec 32 := 1#32
  let v553 : BitVec 32 := Scalar.select v552 c1_i32_388 c32_i32_386
  let v554 : BitVec 32 := Scalar.remsi v551 v553
  let c0_i32_390 : BitVec 32 := 0#32
  let v556 : BitVec 1 := Scalar.cmpi .slt v554 c0_i32_390
  let c0_i32_391 : BitVec 32 := 0#32
  let v557 : BitVec 1 := Scalar.cmpi .slt v553 c0_i32_391
  let v558 : BitVec 1 := Scalar.xori v556 v557
  let c0_i32_389 : BitVec 32 := 0#32
  let v555 : BitVec 1 := Scalar.cmpi .ne v554 c0_i32_389
  let v559 : BitVec 1 := Scalar.andi v558 v555
  let v560 : BitVec 32 := Scalar.addi v554 v553
  let v561 : BitVec 32 := Scalar.select v559 v560 v554
  let c1_i32_396 : BitVec 32 := 1#32
  let v563 : BitVec 32 := Scalar.muli v561 c1_i32_396
  let v564 : BitVec 32 := Scalar.addi c0_i32_397 v563
  v564.toNat
def k0_dev39 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_401 : BitVec 32 := 8#32
  let v572 : BitVec 32 := Scalar.addi v2 c8_i32_401
  let c32_i32_402 : BitVec 32 := 32#32
  let c0_i32_403 : BitVec 32 := 0#32
  let v573 : BitVec 1 := Scalar.cmpi .eq c32_i32_402 c0_i32_403
  let c1_i32_404 : BitVec 32 := 1#32
  let v574 : BitVec 32 := Scalar.select v573 c1_i32_404 c32_i32_402
  let v575 : BitVec 32 := Scalar.remsi v572 v574
  let c0_i32_406 : BitVec 32 := 0#32
  let v577 : BitVec 1 := Scalar.cmpi .slt v575 c0_i32_406
  let c0_i32_407 : BitVec 32 := 0#32
  let v578 : BitVec 1 := Scalar.cmpi .slt v574 c0_i32_407
  let v579 : BitVec 1 := Scalar.xori v577 v578
  let c0_i32_405 : BitVec 32 := 0#32
  let v576 : BitVec 1 := Scalar.cmpi .ne v575 c0_i32_405
  let v580 : BitVec 1 := Scalar.andi v579 v576
  let v581 : BitVec 32 := Scalar.addi v575 v574
  let v582 : BitVec 32 := Scalar.select v580 v581 v575
  let c1_i32_412 : BitVec 32 := 1#32
  let v584 : BitVec 32 := Scalar.muli v582 c1_i32_412
  let v585 : BitVec 32 := Scalar.addi c0_i32_413 v584
  v585.toNat
def k0_dev40 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_417 : BitVec 32 := 9#32
  let v593 : BitVec 32 := Scalar.addi v2 c9_i32_417
  let c32_i32_418 : BitVec 32 := 32#32
  let c0_i32_419 : BitVec 32 := 0#32
  let v594 : BitVec 1 := Scalar.cmpi .eq c32_i32_418 c0_i32_419
  let c1_i32_420 : BitVec 32 := 1#32
  let v595 : BitVec 32 := Scalar.select v594 c1_i32_420 c32_i32_418
  let v596 : BitVec 32 := Scalar.remsi v593 v595
  let c0_i32_422 : BitVec 32 := 0#32
  let v598 : BitVec 1 := Scalar.cmpi .slt v596 c0_i32_422
  let c0_i32_423 : BitVec 32 := 0#32
  let v599 : BitVec 1 := Scalar.cmpi .slt v595 c0_i32_423
  let v600 : BitVec 1 := Scalar.xori v598 v599
  let c0_i32_421 : BitVec 32 := 0#32
  let v597 : BitVec 1 := Scalar.cmpi .ne v596 c0_i32_421
  let v601 : BitVec 1 := Scalar.andi v600 v597
  let v602 : BitVec 32 := Scalar.addi v596 v595
  let v603 : BitVec 32 := Scalar.select v601 v602 v596
  let c1_i32_428 : BitVec 32 := 1#32
  let v605 : BitVec 32 := Scalar.muli v603 c1_i32_428
  let v606 : BitVec 32 := Scalar.addi c0_i32_429 v605
  v606.toNat
def k0_dev41 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_433 : BitVec 32 := 10#32
  let v614 : BitVec 32 := Scalar.addi v2 c10_i32_433
  let c32_i32_434 : BitVec 32 := 32#32
  let c0_i32_435 : BitVec 32 := 0#32
  let v615 : BitVec 1 := Scalar.cmpi .eq c32_i32_434 c0_i32_435
  let c1_i32_436 : BitVec 32 := 1#32
  let v616 : BitVec 32 := Scalar.select v615 c1_i32_436 c32_i32_434
  let v617 : BitVec 32 := Scalar.remsi v614 v616
  let c0_i32_438 : BitVec 32 := 0#32
  let v619 : BitVec 1 := Scalar.cmpi .slt v617 c0_i32_438
  let c0_i32_439 : BitVec 32 := 0#32
  let v620 : BitVec 1 := Scalar.cmpi .slt v616 c0_i32_439
  let v621 : BitVec 1 := Scalar.xori v619 v620
  let c0_i32_437 : BitVec 32 := 0#32
  let v618 : BitVec 1 := Scalar.cmpi .ne v617 c0_i32_437
  let v622 : BitVec 1 := Scalar.andi v621 v618
  let v623 : BitVec 32 := Scalar.addi v617 v616
  let v624 : BitVec 32 := Scalar.select v622 v623 v617
  let c1_i32_444 : BitVec 32 := 1#32
  let v626 : BitVec 32 := Scalar.muli v624 c1_i32_444
  let v627 : BitVec 32 := Scalar.addi c0_i32_445 v626
  v627.toNat
def k0_dev42 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_449 : BitVec 32 := 11#32
  let v635 : BitVec 32 := Scalar.addi v2 c11_i32_449
  let c32_i32_450 : BitVec 32 := 32#32
  let c0_i32_451 : BitVec 32 := 0#32
  let v636 : BitVec 1 := Scalar.cmpi .eq c32_i32_450 c0_i32_451
  let c1_i32_452 : BitVec 32 := 1#32
  let v637 : BitVec 32 := Scalar.select v636 c1_i32_452 c32_i32_450
  let v638 : BitVec 32 := Scalar.remsi v635 v637
  let c0_i32_454 : BitVec 32 := 0#32
  let v640 : BitVec 1 := Scalar.cmpi .slt v638 c0_i32_454
  let c0_i32_455 : BitVec 32 := 0#32
  let v641 : BitVec 1 := Scalar.cmpi .slt v637 c0_i32_455
  let v642 : BitVec 1 := Scalar.xori v640 v641
  let c0_i32_453 : BitVec 32 := 0#32
  let v639 : BitVec 1 := Scalar.cmpi .ne v638 c0_i32_453
  let v643 : BitVec 1 := Scalar.andi v642 v639
  let v644 : BitVec 32 := Scalar.addi v638 v637
  let v645 : BitVec 32 := Scalar.select v643 v644 v638
  let c1_i32_460 : BitVec 32 := 1#32
  let v647 : BitVec 32 := Scalar.muli v645 c1_i32_460
  let v648 : BitVec 32 := Scalar.addi c0_i32_461 v647
  v648.toNat
def k0_dev43 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_465 : BitVec 32 := 12#32
  let v656 : BitVec 32 := Scalar.addi v2 c12_i32_465
  let c32_i32_466 : BitVec 32 := 32#32
  let c0_i32_467 : BitVec 32 := 0#32
  let v657 : BitVec 1 := Scalar.cmpi .eq c32_i32_466 c0_i32_467
  let c1_i32_468 : BitVec 32 := 1#32
  let v658 : BitVec 32 := Scalar.select v657 c1_i32_468 c32_i32_466
  let v659 : BitVec 32 := Scalar.remsi v656 v658
  let c0_i32_470 : BitVec 32 := 0#32
  let v661 : BitVec 1 := Scalar.cmpi .slt v659 c0_i32_470
  let c0_i32_471 : BitVec 32 := 0#32
  let v662 : BitVec 1 := Scalar.cmpi .slt v658 c0_i32_471
  let v663 : BitVec 1 := Scalar.xori v661 v662
  let c0_i32_469 : BitVec 32 := 0#32
  let v660 : BitVec 1 := Scalar.cmpi .ne v659 c0_i32_469
  let v664 : BitVec 1 := Scalar.andi v663 v660
  let v665 : BitVec 32 := Scalar.addi v659 v658
  let v666 : BitVec 32 := Scalar.select v664 v665 v659
  let c1_i32_476 : BitVec 32 := 1#32
  let v668 : BitVec 32 := Scalar.muli v666 c1_i32_476
  let v669 : BitVec 32 := Scalar.addi c0_i32_477 v668
  v669.toNat
def k0_dev44 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_481 : BitVec 32 := 13#32
  let v677 : BitVec 32 := Scalar.addi v2 c13_i32_481
  let c32_i32_482 : BitVec 32 := 32#32
  let c0_i32_483 : BitVec 32 := 0#32
  let v678 : BitVec 1 := Scalar.cmpi .eq c32_i32_482 c0_i32_483
  let c1_i32_484 : BitVec 32 := 1#32
  let v679 : BitVec 32 := Scalar.select v678 c1_i32_484 c32_i32_482
  let v680 : BitVec 32 := Scalar.remsi v677 v679
  let c0_i32_486 : BitVec 32 := 0#32
  let v682 : BitVec 1 := Scalar.cmpi .slt v680 c0_i32_486
  let c0_i32_487 : BitVec 32 := 0#32
  let v683 : BitVec 1 := Scalar.cmpi .slt v679 c0_i32_487
  let v684 : BitVec 1 := Scalar.xori v682 v683
  let c0_i32_485 : BitVec 32 := 0#32
  let v681 : BitVec 1 := Scalar.cmpi .ne v680 c0_i32_485
  let v685 : BitVec 1 := Scalar.andi v684 v681
  let v686 : BitVec 32 := Scalar.addi v680 v679
  let v687 : BitVec 32 := Scalar.select v685 v686 v680
  let c1_i32_492 : BitVec 32 := 1#32
  let v689 : BitVec 32 := Scalar.muli v687 c1_i32_492
  let v690 : BitVec 32 := Scalar.addi c0_i32_493 v689
  v690.toNat
def k0_dev45 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_497 : BitVec 32 := 14#32
  let v698 : BitVec 32 := Scalar.addi v2 c14_i32_497
  let c32_i32_498 : BitVec 32 := 32#32
  let c0_i32_499 : BitVec 32 := 0#32
  let v699 : BitVec 1 := Scalar.cmpi .eq c32_i32_498 c0_i32_499
  let c1_i32_500 : BitVec 32 := 1#32
  let v700 : BitVec 32 := Scalar.select v699 c1_i32_500 c32_i32_498
  let v701 : BitVec 32 := Scalar.remsi v698 v700
  let c0_i32_502 : BitVec 32 := 0#32
  let v703 : BitVec 1 := Scalar.cmpi .slt v701 c0_i32_502
  let c0_i32_503 : BitVec 32 := 0#32
  let v704 : BitVec 1 := Scalar.cmpi .slt v700 c0_i32_503
  let v705 : BitVec 1 := Scalar.xori v703 v704
  let c0_i32_501 : BitVec 32 := 0#32
  let v702 : BitVec 1 := Scalar.cmpi .ne v701 c0_i32_501
  let v706 : BitVec 1 := Scalar.andi v705 v702
  let v707 : BitVec 32 := Scalar.addi v701 v700
  let v708 : BitVec 32 := Scalar.select v706 v707 v701
  let c1_i32_508 : BitVec 32 := 1#32
  let v710 : BitVec 32 := Scalar.muli v708 c1_i32_508
  let v711 : BitVec 32 := Scalar.addi c0_i32_509 v710
  v711.toNat
def k0_dev46 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_513 : BitVec 32 := 15#32
  let v719 : BitVec 32 := Scalar.addi v2 c15_i32_513
  let c32_i32_514 : BitVec 32 := 32#32
  let c0_i32_515 : BitVec 32 := 0#32
  let v720 : BitVec 1 := Scalar.cmpi .eq c32_i32_514 c0_i32_515
  let c1_i32_516 : BitVec 32 := 1#32
  let v721 : BitVec 32 := Scalar.select v720 c1_i32_516 c32_i32_514
  let v722 : BitVec 32 := Scalar.remsi v719 v721
  let c0_i32_518 : BitVec 32 := 0#32
  let v724 : BitVec 1 := Scalar.cmpi .slt v722 c0_i32_518
  let c0_i32_519 : BitVec 32 := 0#32
  let v725 : BitVec 1 := Scalar.cmpi .slt v721 c0_i32_519
  let v726 : BitVec 1 := Scalar.xori v724 v725
  let c0_i32_517 : BitVec 32 := 0#32
  let v723 : BitVec 1 := Scalar.cmpi .ne v722 c0_i32_517
  let v727 : BitVec 1 := Scalar.andi v726 v723
  let v728 : BitVec 32 := Scalar.addi v722 v721
  let v729 : BitVec 32 := Scalar.select v727 v728 v722
  let c1_i32_524 : BitVec 32 := 1#32
  let v731 : BitVec 32 := Scalar.muli v729 c1_i32_524
  let v732 : BitVec 32 := Scalar.addi c0_i32_525 v731
  v732.toNat
def k0_dev47 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_529 : BitVec 32 := 16#32
  let v740 : BitVec 32 := Scalar.addi v2 c16_i32_529
  let c32_i32_530 : BitVec 32 := 32#32
  let c0_i32_531 : BitVec 32 := 0#32
  let v741 : BitVec 1 := Scalar.cmpi .eq c32_i32_530 c0_i32_531
  let c1_i32_532 : BitVec 32 := 1#32
  let v742 : BitVec 32 := Scalar.select v741 c1_i32_532 c32_i32_530
  let v743 : BitVec 32 := Scalar.remsi v740 v742
  let c0_i32_534 : BitVec 32 := 0#32
  let v745 : BitVec 1 := Scalar.cmpi .slt v743 c0_i32_534
  let c0_i32_535 : BitVec 32 := 0#32
  let v746 : BitVec 1 := Scalar.cmpi .slt v742 c0_i32_535
  let v747 : BitVec 1 := Scalar.xori v745 v746
  let c0_i32_533 : BitVec 32 := 0#32
  let v744 : BitVec 1 := Scalar.cmpi .ne v743 c0_i32_533
  let v748 : BitVec 1 := Scalar.andi v747 v744
  let v749 : BitVec 32 := Scalar.addi v743 v742
  let v750 : BitVec 32 := Scalar.select v748 v749 v743
  let c1_i32_540 : BitVec 32 := 1#32
  let v752 : BitVec 32 := Scalar.muli v750 c1_i32_540
  let v753 : BitVec 32 := Scalar.addi c0_i32_541 v752
  v753.toNat
def k0_dev48 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_545 : BitVec 32 := 17#32
  let v761 : BitVec 32 := Scalar.addi v2 c17_i32_545
  let c32_i32_546 : BitVec 32 := 32#32
  let c0_i32_547 : BitVec 32 := 0#32
  let v762 : BitVec 1 := Scalar.cmpi .eq c32_i32_546 c0_i32_547
  let c1_i32_548 : BitVec 32 := 1#32
  let v763 : BitVec 32 := Scalar.select v762 c1_i32_548 c32_i32_546
  let v764 : BitVec 32 := Scalar.remsi v761 v763
  let c0_i32_550 : BitVec 32 := 0#32
  let v766 : BitVec 1 := Scalar.cmpi .slt v764 c0_i32_550
  let c0_i32_551 : BitVec 32 := 0#32
  let v767 : BitVec 1 := Scalar.cmpi .slt v763 c0_i32_551
  let v768 : BitVec 1 := Scalar.xori v766 v767
  let c0_i32_549 : BitVec 32 := 0#32
  let v765 : BitVec 1 := Scalar.cmpi .ne v764 c0_i32_549
  let v769 : BitVec 1 := Scalar.andi v768 v765
  let v770 : BitVec 32 := Scalar.addi v764 v763
  let v771 : BitVec 32 := Scalar.select v769 v770 v764
  let c1_i32_556 : BitVec 32 := 1#32
  let v773 : BitVec 32 := Scalar.muli v771 c1_i32_556
  let v774 : BitVec 32 := Scalar.addi c0_i32_557 v773
  v774.toNat
def k0_dev49 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_561 : BitVec 32 := 18#32
  let v782 : BitVec 32 := Scalar.addi v2 c18_i32_561
  let c32_i32_562 : BitVec 32 := 32#32
  let c0_i32_563 : BitVec 32 := 0#32
  let v783 : BitVec 1 := Scalar.cmpi .eq c32_i32_562 c0_i32_563
  let c1_i32_564 : BitVec 32 := 1#32
  let v784 : BitVec 32 := Scalar.select v783 c1_i32_564 c32_i32_562
  let v785 : BitVec 32 := Scalar.remsi v782 v784
  let c0_i32_566 : BitVec 32 := 0#32
  let v787 : BitVec 1 := Scalar.cmpi .slt v785 c0_i32_566
  let c0_i32_567 : BitVec 32 := 0#32
  let v788 : BitVec 1 := Scalar.cmpi .slt v784 c0_i32_567
  let v789 : BitVec 1 := Scalar.xori v787 v788
  let c0_i32_565 : BitVec 32 := 0#32
  let v786 : BitVec 1 := Scalar.cmpi .ne v785 c0_i32_565
  let v790 : BitVec 1 := Scalar.andi v789 v786
  let v791 : BitVec 32 := Scalar.addi v785 v784
  let v792 : BitVec 32 := Scalar.select v790 v791 v785
  let c1_i32_572 : BitVec 32 := 1#32
  let v794 : BitVec 32 := Scalar.muli v792 c1_i32_572
  let v795 : BitVec 32 := Scalar.addi c0_i32_573 v794
  v795.toNat
def k0_dev50 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_577 : BitVec 32 := 19#32
  let v803 : BitVec 32 := Scalar.addi v2 c19_i32_577
  let c32_i32_578 : BitVec 32 := 32#32
  let c0_i32_579 : BitVec 32 := 0#32
  let v804 : BitVec 1 := Scalar.cmpi .eq c32_i32_578 c0_i32_579
  let c1_i32_580 : BitVec 32 := 1#32
  let v805 : BitVec 32 := Scalar.select v804 c1_i32_580 c32_i32_578
  let v806 : BitVec 32 := Scalar.remsi v803 v805
  let c0_i32_582 : BitVec 32 := 0#32
  let v808 : BitVec 1 := Scalar.cmpi .slt v806 c0_i32_582
  let c0_i32_583 : BitVec 32 := 0#32
  let v809 : BitVec 1 := Scalar.cmpi .slt v805 c0_i32_583
  let v810 : BitVec 1 := Scalar.xori v808 v809
  let c0_i32_581 : BitVec 32 := 0#32
  let v807 : BitVec 1 := Scalar.cmpi .ne v806 c0_i32_581
  let v811 : BitVec 1 := Scalar.andi v810 v807
  let v812 : BitVec 32 := Scalar.addi v806 v805
  let v813 : BitVec 32 := Scalar.select v811 v812 v806
  let c1_i32_588 : BitVec 32 := 1#32
  let v815 : BitVec 32 := Scalar.muli v813 c1_i32_588
  let v816 : BitVec 32 := Scalar.addi c0_i32_589 v815
  v816.toNat
def k0_dev51 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_593 : BitVec 32 := 20#32
  let v824 : BitVec 32 := Scalar.addi v2 c20_i32_593
  let c32_i32_594 : BitVec 32 := 32#32
  let c0_i32_595 : BitVec 32 := 0#32
  let v825 : BitVec 1 := Scalar.cmpi .eq c32_i32_594 c0_i32_595
  let c1_i32_596 : BitVec 32 := 1#32
  let v826 : BitVec 32 := Scalar.select v825 c1_i32_596 c32_i32_594
  let v827 : BitVec 32 := Scalar.remsi v824 v826
  let c0_i32_598 : BitVec 32 := 0#32
  let v829 : BitVec 1 := Scalar.cmpi .slt v827 c0_i32_598
  let c0_i32_599 : BitVec 32 := 0#32
  let v830 : BitVec 1 := Scalar.cmpi .slt v826 c0_i32_599
  let v831 : BitVec 1 := Scalar.xori v829 v830
  let c0_i32_597 : BitVec 32 := 0#32
  let v828 : BitVec 1 := Scalar.cmpi .ne v827 c0_i32_597
  let v832 : BitVec 1 := Scalar.andi v831 v828
  let v833 : BitVec 32 := Scalar.addi v827 v826
  let v834 : BitVec 32 := Scalar.select v832 v833 v827
  let c1_i32_604 : BitVec 32 := 1#32
  let v836 : BitVec 32 := Scalar.muli v834 c1_i32_604
  let v837 : BitVec 32 := Scalar.addi c0_i32_605 v836
  v837.toNat
def k0_dev52 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_609 : BitVec 32 := 21#32
  let v845 : BitVec 32 := Scalar.addi v2 c21_i32_609
  let c32_i32_610 : BitVec 32 := 32#32
  let c0_i32_611 : BitVec 32 := 0#32
  let v846 : BitVec 1 := Scalar.cmpi .eq c32_i32_610 c0_i32_611
  let c1_i32_612 : BitVec 32 := 1#32
  let v847 : BitVec 32 := Scalar.select v846 c1_i32_612 c32_i32_610
  let v848 : BitVec 32 := Scalar.remsi v845 v847
  let c0_i32_614 : BitVec 32 := 0#32
  let v850 : BitVec 1 := Scalar.cmpi .slt v848 c0_i32_614
  let c0_i32_615 : BitVec 32 := 0#32
  let v851 : BitVec 1 := Scalar.cmpi .slt v847 c0_i32_615
  let v852 : BitVec 1 := Scalar.xori v850 v851
  let c0_i32_613 : BitVec 32 := 0#32
  let v849 : BitVec 1 := Scalar.cmpi .ne v848 c0_i32_613
  let v853 : BitVec 1 := Scalar.andi v852 v849
  let v854 : BitVec 32 := Scalar.addi v848 v847
  let v855 : BitVec 32 := Scalar.select v853 v854 v848
  let c1_i32_620 : BitVec 32 := 1#32
  let v857 : BitVec 32 := Scalar.muli v855 c1_i32_620
  let v858 : BitVec 32 := Scalar.addi c0_i32_621 v857
  v858.toNat
def k0_dev53 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_625 : BitVec 32 := 22#32
  let v866 : BitVec 32 := Scalar.addi v2 c22_i32_625
  let c32_i32_626 : BitVec 32 := 32#32
  let c0_i32_627 : BitVec 32 := 0#32
  let v867 : BitVec 1 := Scalar.cmpi .eq c32_i32_626 c0_i32_627
  let c1_i32_628 : BitVec 32 := 1#32
  let v868 : BitVec 32 := Scalar.select v867 c1_i32_628 c32_i32_626
  let v869 : BitVec 32 := Scalar.remsi v866 v868
  let c0_i32_630 : BitVec 32 := 0#32
  let v871 : BitVec 1 := Scalar.cmpi .slt v869 c0_i32_630
  let c0_i32_631 : BitVec 32 := 0#32
  let v872 : BitVec 1 := Scalar.cmpi .slt v868 c0_i32_631
  let v873 : BitVec 1 := Scalar.xori v871 v872
  let c0_i32_629 : BitVec 32 := 0#32
  let v870 : BitVec 1 := Scalar.cmpi .ne v869 c0_i32_629
  let v874 : BitVec 1 := Scalar.andi v873 v870
  let v875 : BitVec 32 := Scalar.addi v869 v868
  let v876 : BitVec 32 := Scalar.select v874 v875 v869
  let c1_i32_636 : BitVec 32 := 1#32
  let v878 : BitVec 32 := Scalar.muli v876 c1_i32_636
  let v879 : BitVec 32 := Scalar.addi c0_i32_637 v878
  v879.toNat
def k0_dev54 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_641 : BitVec 32 := 23#32
  let v887 : BitVec 32 := Scalar.addi v2 c23_i32_641
  let c32_i32_642 : BitVec 32 := 32#32
  let c0_i32_643 : BitVec 32 := 0#32
  let v888 : BitVec 1 := Scalar.cmpi .eq c32_i32_642 c0_i32_643
  let c1_i32_644 : BitVec 32 := 1#32
  let v889 : BitVec 32 := Scalar.select v888 c1_i32_644 c32_i32_642
  let v890 : BitVec 32 := Scalar.remsi v887 v889
  let c0_i32_646 : BitVec 32 := 0#32
  let v892 : BitVec 1 := Scalar.cmpi .slt v890 c0_i32_646
  let c0_i32_647 : BitVec 32 := 0#32
  let v893 : BitVec 1 := Scalar.cmpi .slt v889 c0_i32_647
  let v894 : BitVec 1 := Scalar.xori v892 v893
  let c0_i32_645 : BitVec 32 := 0#32
  let v891 : BitVec 1 := Scalar.cmpi .ne v890 c0_i32_645
  let v895 : BitVec 1 := Scalar.andi v894 v891
  let v896 : BitVec 32 := Scalar.addi v890 v889
  let v897 : BitVec 32 := Scalar.select v895 v896 v890
  let c1_i32_652 : BitVec 32 := 1#32
  let v899 : BitVec 32 := Scalar.muli v897 c1_i32_652
  let v900 : BitVec 32 := Scalar.addi c0_i32_653 v899
  v900.toNat
def k0_dev55 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_657 : BitVec 32 := 24#32
  let v908 : BitVec 32 := Scalar.addi v2 c24_i32_657
  let c32_i32_658 : BitVec 32 := 32#32
  let c0_i32_659 : BitVec 32 := 0#32
  let v909 : BitVec 1 := Scalar.cmpi .eq c32_i32_658 c0_i32_659
  let c1_i32_660 : BitVec 32 := 1#32
  let v910 : BitVec 32 := Scalar.select v909 c1_i32_660 c32_i32_658
  let v911 : BitVec 32 := Scalar.remsi v908 v910
  let c0_i32_662 : BitVec 32 := 0#32
  let v913 : BitVec 1 := Scalar.cmpi .slt v911 c0_i32_662
  let c0_i32_663 : BitVec 32 := 0#32
  let v914 : BitVec 1 := Scalar.cmpi .slt v910 c0_i32_663
  let v915 : BitVec 1 := Scalar.xori v913 v914
  let c0_i32_661 : BitVec 32 := 0#32
  let v912 : BitVec 1 := Scalar.cmpi .ne v911 c0_i32_661
  let v916 : BitVec 1 := Scalar.andi v915 v912
  let v917 : BitVec 32 := Scalar.addi v911 v910
  let v918 : BitVec 32 := Scalar.select v916 v917 v911
  let c1_i32_668 : BitVec 32 := 1#32
  let v920 : BitVec 32 := Scalar.muli v918 c1_i32_668
  let v921 : BitVec 32 := Scalar.addi c0_i32_669 v920
  v921.toNat
def k0_dev56 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_673 : BitVec 32 := 25#32
  let v929 : BitVec 32 := Scalar.addi v2 c25_i32_673
  let c32_i32_674 : BitVec 32 := 32#32
  let c0_i32_675 : BitVec 32 := 0#32
  let v930 : BitVec 1 := Scalar.cmpi .eq c32_i32_674 c0_i32_675
  let c1_i32_676 : BitVec 32 := 1#32
  let v931 : BitVec 32 := Scalar.select v930 c1_i32_676 c32_i32_674
  let v932 : BitVec 32 := Scalar.remsi v929 v931
  let c0_i32_678 : BitVec 32 := 0#32
  let v934 : BitVec 1 := Scalar.cmpi .slt v932 c0_i32_678
  let c0_i32_679 : BitVec 32 := 0#32
  let v935 : BitVec 1 := Scalar.cmpi .slt v931 c0_i32_679
  let v936 : BitVec 1 := Scalar.xori v934 v935
  let c0_i32_677 : BitVec 32 := 0#32
  let v933 : BitVec 1 := Scalar.cmpi .ne v932 c0_i32_677
  let v937 : BitVec 1 := Scalar.andi v936 v933
  let v938 : BitVec 32 := Scalar.addi v932 v931
  let v939 : BitVec 32 := Scalar.select v937 v938 v932
  let c1_i32_684 : BitVec 32 := 1#32
  let v941 : BitVec 32 := Scalar.muli v939 c1_i32_684
  let v942 : BitVec 32 := Scalar.addi c0_i32_685 v941
  v942.toNat
def k0_dev57 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_689 : BitVec 32 := 26#32
  let v950 : BitVec 32 := Scalar.addi v2 c26_i32_689
  let c32_i32_690 : BitVec 32 := 32#32
  let c0_i32_691 : BitVec 32 := 0#32
  let v951 : BitVec 1 := Scalar.cmpi .eq c32_i32_690 c0_i32_691
  let c1_i32_692 : BitVec 32 := 1#32
  let v952 : BitVec 32 := Scalar.select v951 c1_i32_692 c32_i32_690
  let v953 : BitVec 32 := Scalar.remsi v950 v952
  let c0_i32_694 : BitVec 32 := 0#32
  let v955 : BitVec 1 := Scalar.cmpi .slt v953 c0_i32_694
  let c0_i32_695 : BitVec 32 := 0#32
  let v956 : BitVec 1 := Scalar.cmpi .slt v952 c0_i32_695
  let v957 : BitVec 1 := Scalar.xori v955 v956
  let c0_i32_693 : BitVec 32 := 0#32
  let v954 : BitVec 1 := Scalar.cmpi .ne v953 c0_i32_693
  let v958 : BitVec 1 := Scalar.andi v957 v954
  let v959 : BitVec 32 := Scalar.addi v953 v952
  let v960 : BitVec 32 := Scalar.select v958 v959 v953
  let c1_i32_700 : BitVec 32 := 1#32
  let v962 : BitVec 32 := Scalar.muli v960 c1_i32_700
  let v963 : BitVec 32 := Scalar.addi c0_i32_701 v962
  v963.toNat
def k0_dev58 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_705 : BitVec 32 := 27#32
  let v971 : BitVec 32 := Scalar.addi v2 c27_i32_705
  let c32_i32_706 : BitVec 32 := 32#32
  let c0_i32_707 : BitVec 32 := 0#32
  let v972 : BitVec 1 := Scalar.cmpi .eq c32_i32_706 c0_i32_707
  let c1_i32_708 : BitVec 32 := 1#32
  let v973 : BitVec 32 := Scalar.select v972 c1_i32_708 c32_i32_706
  let v974 : BitVec 32 := Scalar.remsi v971 v973
  let c0_i32_710 : BitVec 32 := 0#32
  let v976 : BitVec 1 := Scalar.cmpi .slt v974 c0_i32_710
  let c0_i32_711 : BitVec 32 := 0#32
  let v977 : BitVec 1 := Scalar.cmpi .slt v973 c0_i32_711
  let v978 : BitVec 1 := Scalar.xori v976 v977
  let c0_i32_709 : BitVec 32 := 0#32
  let v975 : BitVec 1 := Scalar.cmpi .ne v974 c0_i32_709
  let v979 : BitVec 1 := Scalar.andi v978 v975
  let v980 : BitVec 32 := Scalar.addi v974 v973
  let v981 : BitVec 32 := Scalar.select v979 v980 v974
  let c1_i32_716 : BitVec 32 := 1#32
  let v983 : BitVec 32 := Scalar.muli v981 c1_i32_716
  let v984 : BitVec 32 := Scalar.addi c0_i32_717 v983
  v984.toNat
def k0_dev59 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_721 : BitVec 32 := 28#32
  let v992 : BitVec 32 := Scalar.addi v2 c28_i32_721
  let c32_i32_722 : BitVec 32 := 32#32
  let c0_i32_723 : BitVec 32 := 0#32
  let v993 : BitVec 1 := Scalar.cmpi .eq c32_i32_722 c0_i32_723
  let c1_i32_724 : BitVec 32 := 1#32
  let v994 : BitVec 32 := Scalar.select v993 c1_i32_724 c32_i32_722
  let v995 : BitVec 32 := Scalar.remsi v992 v994
  let c0_i32_726 : BitVec 32 := 0#32
  let v997 : BitVec 1 := Scalar.cmpi .slt v995 c0_i32_726
  let c0_i32_727 : BitVec 32 := 0#32
  let v998 : BitVec 1 := Scalar.cmpi .slt v994 c0_i32_727
  let v999 : BitVec 1 := Scalar.xori v997 v998
  let c0_i32_725 : BitVec 32 := 0#32
  let v996 : BitVec 1 := Scalar.cmpi .ne v995 c0_i32_725
  let v1000 : BitVec 1 := Scalar.andi v999 v996
  let v1001 : BitVec 32 := Scalar.addi v995 v994
  let v1002 : BitVec 32 := Scalar.select v1000 v1001 v995
  let c1_i32_732 : BitVec 32 := 1#32
  let v1004 : BitVec 32 := Scalar.muli v1002 c1_i32_732
  let v1005 : BitVec 32 := Scalar.addi c0_i32_733 v1004
  v1005.toNat
def k0_dev60 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_737 : BitVec 32 := 29#32
  let v1013 : BitVec 32 := Scalar.addi v2 c29_i32_737
  let c32_i32_738 : BitVec 32 := 32#32
  let c0_i32_739 : BitVec 32 := 0#32
  let v1014 : BitVec 1 := Scalar.cmpi .eq c32_i32_738 c0_i32_739
  let c1_i32_740 : BitVec 32 := 1#32
  let v1015 : BitVec 32 := Scalar.select v1014 c1_i32_740 c32_i32_738
  let v1016 : BitVec 32 := Scalar.remsi v1013 v1015
  let c0_i32_742 : BitVec 32 := 0#32
  let v1018 : BitVec 1 := Scalar.cmpi .slt v1016 c0_i32_742
  let c0_i32_743 : BitVec 32 := 0#32
  let v1019 : BitVec 1 := Scalar.cmpi .slt v1015 c0_i32_743
  let v1020 : BitVec 1 := Scalar.xori v1018 v1019
  let c0_i32_741 : BitVec 32 := 0#32
  let v1017 : BitVec 1 := Scalar.cmpi .ne v1016 c0_i32_741
  let v1021 : BitVec 1 := Scalar.andi v1020 v1017
  let v1022 : BitVec 32 := Scalar.addi v1016 v1015
  let v1023 : BitVec 32 := Scalar.select v1021 v1022 v1016
  let c1_i32_748 : BitVec 32 := 1#32
  let v1025 : BitVec 32 := Scalar.muli v1023 c1_i32_748
  let v1026 : BitVec 32 := Scalar.addi c0_i32_749 v1025
  v1026.toNat
def k0_dev61 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_753 : BitVec 32 := 30#32
  let v1034 : BitVec 32 := Scalar.addi v2 c30_i32_753
  let c32_i32_754 : BitVec 32 := 32#32
  let c0_i32_755 : BitVec 32 := 0#32
  let v1035 : BitVec 1 := Scalar.cmpi .eq c32_i32_754 c0_i32_755
  let c1_i32_756 : BitVec 32 := 1#32
  let v1036 : BitVec 32 := Scalar.select v1035 c1_i32_756 c32_i32_754
  let v1037 : BitVec 32 := Scalar.remsi v1034 v1036
  let c0_i32_758 : BitVec 32 := 0#32
  let v1039 : BitVec 1 := Scalar.cmpi .slt v1037 c0_i32_758
  let c0_i32_759 : BitVec 32 := 0#32
  let v1040 : BitVec 1 := Scalar.cmpi .slt v1036 c0_i32_759
  let v1041 : BitVec 1 := Scalar.xori v1039 v1040
  let c0_i32_757 : BitVec 32 := 0#32
  let v1038 : BitVec 1 := Scalar.cmpi .ne v1037 c0_i32_757
  let v1042 : BitVec 1 := Scalar.andi v1041 v1038
  let v1043 : BitVec 32 := Scalar.addi v1037 v1036
  let v1044 : BitVec 32 := Scalar.select v1042 v1043 v1037
  let c1_i32_764 : BitVec 32 := 1#32
  let v1046 : BitVec 32 := Scalar.muli v1044 c1_i32_764
  let v1047 : BitVec 32 := Scalar.addi c0_i32_765 v1046
  v1047.toNat
def k0_dev62 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_769 : BitVec 32 := 31#32
  let v1055 : BitVec 32 := Scalar.addi v2 c31_i32_769
  let c32_i32_770 : BitVec 32 := 32#32
  let c0_i32_771 : BitVec 32 := 0#32
  let v1056 : BitVec 1 := Scalar.cmpi .eq c32_i32_770 c0_i32_771
  let c1_i32_772 : BitVec 32 := 1#32
  let v1057 : BitVec 32 := Scalar.select v1056 c1_i32_772 c32_i32_770
  let v1058 : BitVec 32 := Scalar.remsi v1055 v1057
  let c0_i32_774 : BitVec 32 := 0#32
  let v1060 : BitVec 1 := Scalar.cmpi .slt v1058 c0_i32_774
  let c0_i32_775 : BitVec 32 := 0#32
  let v1061 : BitVec 1 := Scalar.cmpi .slt v1057 c0_i32_775
  let v1062 : BitVec 1 := Scalar.xori v1060 v1061
  let c0_i32_773 : BitVec 32 := 0#32
  let v1059 : BitVec 1 := Scalar.cmpi .ne v1058 c0_i32_773
  let v1063 : BitVec 1 := Scalar.andi v1062 v1059
  let v1064 : BitVec 32 := Scalar.addi v1058 v1057
  let v1065 : BitVec 32 := Scalar.select v1063 v1064 v1058
  let c1_i32_780 : BitVec 32 := 1#32
  let v1067 : BitVec 32 := Scalar.muli v1065 c1_i32_780
  let v1068 : BitVec 32 := Scalar.addi c0_i32_781 v1067
  v1068.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_785 : BitVec 32 := 16#32
  let v1076 : BitVec 32 := Scalar.muli v2 c16_i32_785
  let v1077 : Index := Scalar.indexCast v1076
  let c0_786 : Index := 0#32
  ![v1077.toNat, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1644 : Index := Scalar.indexCast v2
  let c0_1290 : Index := 0#32
  let c0_1291 : Index := 0#32
  ![v1644.toNat, 0, 0]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1302 : BitVec 32 := 0#32
  let c0_i32_1303 : BitVec 32 := 0#32
  ![v2.toNat, 0, 0]
def k0_dev63 (d0 : Dev nD) : Nat :=
  let c0_i32_1301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1292 : BitVec 32 := 1#32
  let v1648 : BitVec 32 := Scalar.addi v2 c1_i32_1292
  let c32_i32_1293 : BitVec 32 := 32#32
  let c0_i32_1294 : BitVec 32 := 0#32
  let v1649 : BitVec 1 := Scalar.cmpi .eq c32_i32_1293 c0_i32_1294
  let c1_i32_1295 : BitVec 32 := 1#32
  let v1650 : BitVec 32 := Scalar.select v1649 c1_i32_1295 c32_i32_1293
  let v1651 : BitVec 32 := Scalar.remsi v1648 v1650
  let c0_i32_1297 : BitVec 32 := 0#32
  let v1653 : BitVec 1 := Scalar.cmpi .slt v1651 c0_i32_1297
  let c0_i32_1298 : BitVec 32 := 0#32
  let v1654 : BitVec 1 := Scalar.cmpi .slt v1650 c0_i32_1298
  let v1655 : BitVec 1 := Scalar.xori v1653 v1654
  let c0_i32_1296 : BitVec 32 := 0#32
  let v1652 : BitVec 1 := Scalar.cmpi .ne v1651 c0_i32_1296
  let v1656 : BitVec 1 := Scalar.andi v1655 v1652
  let v1657 : BitVec 32 := Scalar.addi v1651 v1650
  let v1658 : BitVec 32 := Scalar.select v1656 v1657 v1651
  let c1_i32_1300 : BitVec 32 := 1#32
  let v1659 : BitVec 32 := Scalar.muli v1658 c1_i32_1300
  let v1660 : BitVec 32 := Scalar.addi c0_i32_1301 v1659
  v1660.toNat
def k0_dev64 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1306 : BitVec 32 := 2#32
  let v1669 : BitVec 32 := Scalar.addi v2 c2_i32_1306
  let c32_i32_1307 : BitVec 32 := 32#32
  let c0_i32_1308 : BitVec 32 := 0#32
  let v1670 : BitVec 1 := Scalar.cmpi .eq c32_i32_1307 c0_i32_1308
  let c1_i32_1309 : BitVec 32 := 1#32
  let v1671 : BitVec 32 := Scalar.select v1670 c1_i32_1309 c32_i32_1307
  let v1672 : BitVec 32 := Scalar.remsi v1669 v1671
  let c0_i32_1311 : BitVec 32 := 0#32
  let v1674 : BitVec 1 := Scalar.cmpi .slt v1672 c0_i32_1311
  let c0_i32_1312 : BitVec 32 := 0#32
  let v1675 : BitVec 1 := Scalar.cmpi .slt v1671 c0_i32_1312
  let v1676 : BitVec 1 := Scalar.xori v1674 v1675
  let c0_i32_1310 : BitVec 32 := 0#32
  let v1673 : BitVec 1 := Scalar.cmpi .ne v1672 c0_i32_1310
  let v1677 : BitVec 1 := Scalar.andi v1676 v1673
  let v1678 : BitVec 32 := Scalar.addi v1672 v1671
  let v1679 : BitVec 32 := Scalar.select v1677 v1678 v1672
  let c1_i32_1314 : BitVec 32 := 1#32
  let v1680 : BitVec 32 := Scalar.muli v1679 c1_i32_1314
  let v1681 : BitVec 32 := Scalar.addi c0_i32_1315 v1680
  v1681.toNat
def k0_dev65 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1320 : BitVec 32 := 3#32
  let v1690 : BitVec 32 := Scalar.addi v2 c3_i32_1320
  let c32_i32_1321 : BitVec 32 := 32#32
  let c0_i32_1322 : BitVec 32 := 0#32
  let v1691 : BitVec 1 := Scalar.cmpi .eq c32_i32_1321 c0_i32_1322
  let c1_i32_1323 : BitVec 32 := 1#32
  let v1692 : BitVec 32 := Scalar.select v1691 c1_i32_1323 c32_i32_1321
  let v1693 : BitVec 32 := Scalar.remsi v1690 v1692
  let c0_i32_1325 : BitVec 32 := 0#32
  let v1695 : BitVec 1 := Scalar.cmpi .slt v1693 c0_i32_1325
  let c0_i32_1326 : BitVec 32 := 0#32
  let v1696 : BitVec 1 := Scalar.cmpi .slt v1692 c0_i32_1326
  let v1697 : BitVec 1 := Scalar.xori v1695 v1696
  let c0_i32_1324 : BitVec 32 := 0#32
  let v1694 : BitVec 1 := Scalar.cmpi .ne v1693 c0_i32_1324
  let v1698 : BitVec 1 := Scalar.andi v1697 v1694
  let v1699 : BitVec 32 := Scalar.addi v1693 v1692
  let v1700 : BitVec 32 := Scalar.select v1698 v1699 v1693
  let c1_i32_1328 : BitVec 32 := 1#32
  let v1701 : BitVec 32 := Scalar.muli v1700 c1_i32_1328
  let v1702 : BitVec 32 := Scalar.addi c0_i32_1329 v1701
  v1702.toNat
def k0_dev66 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1334 : BitVec 32 := 4#32
  let v1711 : BitVec 32 := Scalar.addi v2 c4_i32_1334
  let c32_i32_1335 : BitVec 32 := 32#32
  let c0_i32_1336 : BitVec 32 := 0#32
  let v1712 : BitVec 1 := Scalar.cmpi .eq c32_i32_1335 c0_i32_1336
  let c1_i32_1337 : BitVec 32 := 1#32
  let v1713 : BitVec 32 := Scalar.select v1712 c1_i32_1337 c32_i32_1335
  let v1714 : BitVec 32 := Scalar.remsi v1711 v1713
  let c0_i32_1339 : BitVec 32 := 0#32
  let v1716 : BitVec 1 := Scalar.cmpi .slt v1714 c0_i32_1339
  let c0_i32_1340 : BitVec 32 := 0#32
  let v1717 : BitVec 1 := Scalar.cmpi .slt v1713 c0_i32_1340
  let v1718 : BitVec 1 := Scalar.xori v1716 v1717
  let c0_i32_1338 : BitVec 32 := 0#32
  let v1715 : BitVec 1 := Scalar.cmpi .ne v1714 c0_i32_1338
  let v1719 : BitVec 1 := Scalar.andi v1718 v1715
  let v1720 : BitVec 32 := Scalar.addi v1714 v1713
  let v1721 : BitVec 32 := Scalar.select v1719 v1720 v1714
  let c1_i32_1342 : BitVec 32 := 1#32
  let v1722 : BitVec 32 := Scalar.muli v1721 c1_i32_1342
  let v1723 : BitVec 32 := Scalar.addi c0_i32_1343 v1722
  v1723.toNat
def k0_dev67 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1348 : BitVec 32 := 5#32
  let v1732 : BitVec 32 := Scalar.addi v2 c5_i32_1348
  let c32_i32_1349 : BitVec 32 := 32#32
  let c0_i32_1350 : BitVec 32 := 0#32
  let v1733 : BitVec 1 := Scalar.cmpi .eq c32_i32_1349 c0_i32_1350
  let c1_i32_1351 : BitVec 32 := 1#32
  let v1734 : BitVec 32 := Scalar.select v1733 c1_i32_1351 c32_i32_1349
  let v1735 : BitVec 32 := Scalar.remsi v1732 v1734
  let c0_i32_1353 : BitVec 32 := 0#32
  let v1737 : BitVec 1 := Scalar.cmpi .slt v1735 c0_i32_1353
  let c0_i32_1354 : BitVec 32 := 0#32
  let v1738 : BitVec 1 := Scalar.cmpi .slt v1734 c0_i32_1354
  let v1739 : BitVec 1 := Scalar.xori v1737 v1738
  let c0_i32_1352 : BitVec 32 := 0#32
  let v1736 : BitVec 1 := Scalar.cmpi .ne v1735 c0_i32_1352
  let v1740 : BitVec 1 := Scalar.andi v1739 v1736
  let v1741 : BitVec 32 := Scalar.addi v1735 v1734
  let v1742 : BitVec 32 := Scalar.select v1740 v1741 v1735
  let c1_i32_1356 : BitVec 32 := 1#32
  let v1743 : BitVec 32 := Scalar.muli v1742 c1_i32_1356
  let v1744 : BitVec 32 := Scalar.addi c0_i32_1357 v1743
  v1744.toNat
def k0_dev68 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1362 : BitVec 32 := 6#32
  let v1753 : BitVec 32 := Scalar.addi v2 c6_i32_1362
  let c32_i32_1363 : BitVec 32 := 32#32
  let c0_i32_1364 : BitVec 32 := 0#32
  let v1754 : BitVec 1 := Scalar.cmpi .eq c32_i32_1363 c0_i32_1364
  let c1_i32_1365 : BitVec 32 := 1#32
  let v1755 : BitVec 32 := Scalar.select v1754 c1_i32_1365 c32_i32_1363
  let v1756 : BitVec 32 := Scalar.remsi v1753 v1755
  let c0_i32_1367 : BitVec 32 := 0#32
  let v1758 : BitVec 1 := Scalar.cmpi .slt v1756 c0_i32_1367
  let c0_i32_1368 : BitVec 32 := 0#32
  let v1759 : BitVec 1 := Scalar.cmpi .slt v1755 c0_i32_1368
  let v1760 : BitVec 1 := Scalar.xori v1758 v1759
  let c0_i32_1366 : BitVec 32 := 0#32
  let v1757 : BitVec 1 := Scalar.cmpi .ne v1756 c0_i32_1366
  let v1761 : BitVec 1 := Scalar.andi v1760 v1757
  let v1762 : BitVec 32 := Scalar.addi v1756 v1755
  let v1763 : BitVec 32 := Scalar.select v1761 v1762 v1756
  let c1_i32_1370 : BitVec 32 := 1#32
  let v1764 : BitVec 32 := Scalar.muli v1763 c1_i32_1370
  let v1765 : BitVec 32 := Scalar.addi c0_i32_1371 v1764
  v1765.toNat
def k0_dev69 (d0 : Dev nD) : Nat :=
  let c0_i32_1385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1376 : BitVec 32 := 7#32
  let v1774 : BitVec 32 := Scalar.addi v2 c7_i32_1376
  let c32_i32_1377 : BitVec 32 := 32#32
  let c0_i32_1378 : BitVec 32 := 0#32
  let v1775 : BitVec 1 := Scalar.cmpi .eq c32_i32_1377 c0_i32_1378
  let c1_i32_1379 : BitVec 32 := 1#32
  let v1776 : BitVec 32 := Scalar.select v1775 c1_i32_1379 c32_i32_1377
  let v1777 : BitVec 32 := Scalar.remsi v1774 v1776
  let c0_i32_1381 : BitVec 32 := 0#32
  let v1779 : BitVec 1 := Scalar.cmpi .slt v1777 c0_i32_1381
  let c0_i32_1382 : BitVec 32 := 0#32
  let v1780 : BitVec 1 := Scalar.cmpi .slt v1776 c0_i32_1382
  let v1781 : BitVec 1 := Scalar.xori v1779 v1780
  let c0_i32_1380 : BitVec 32 := 0#32
  let v1778 : BitVec 1 := Scalar.cmpi .ne v1777 c0_i32_1380
  let v1782 : BitVec 1 := Scalar.andi v1781 v1778
  let v1783 : BitVec 32 := Scalar.addi v1777 v1776
  let v1784 : BitVec 32 := Scalar.select v1782 v1783 v1777
  let c1_i32_1384 : BitVec 32 := 1#32
  let v1785 : BitVec 32 := Scalar.muli v1784 c1_i32_1384
  let v1786 : BitVec 32 := Scalar.addi c0_i32_1385 v1785
  v1786.toNat
def k0_dev70 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1390 : BitVec 32 := 8#32
  let v1795 : BitVec 32 := Scalar.addi v2 c8_i32_1390
  let c32_i32_1391 : BitVec 32 := 32#32
  let c0_i32_1392 : BitVec 32 := 0#32
  let v1796 : BitVec 1 := Scalar.cmpi .eq c32_i32_1391 c0_i32_1392
  let c1_i32_1393 : BitVec 32 := 1#32
  let v1797 : BitVec 32 := Scalar.select v1796 c1_i32_1393 c32_i32_1391
  let v1798 : BitVec 32 := Scalar.remsi v1795 v1797
  let c0_i32_1395 : BitVec 32 := 0#32
  let v1800 : BitVec 1 := Scalar.cmpi .slt v1798 c0_i32_1395
  let c0_i32_1396 : BitVec 32 := 0#32
  let v1801 : BitVec 1 := Scalar.cmpi .slt v1797 c0_i32_1396
  let v1802 : BitVec 1 := Scalar.xori v1800 v1801
  let c0_i32_1394 : BitVec 32 := 0#32
  let v1799 : BitVec 1 := Scalar.cmpi .ne v1798 c0_i32_1394
  let v1803 : BitVec 1 := Scalar.andi v1802 v1799
  let v1804 : BitVec 32 := Scalar.addi v1798 v1797
  let v1805 : BitVec 32 := Scalar.select v1803 v1804 v1798
  let c1_i32_1398 : BitVec 32 := 1#32
  let v1806 : BitVec 32 := Scalar.muli v1805 c1_i32_1398
  let v1807 : BitVec 32 := Scalar.addi c0_i32_1399 v1806
  v1807.toNat
def k0_dev71 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1404 : BitVec 32 := 9#32
  let v1816 : BitVec 32 := Scalar.addi v2 c9_i32_1404
  let c32_i32_1405 : BitVec 32 := 32#32
  let c0_i32_1406 : BitVec 32 := 0#32
  let v1817 : BitVec 1 := Scalar.cmpi .eq c32_i32_1405 c0_i32_1406
  let c1_i32_1407 : BitVec 32 := 1#32
  let v1818 : BitVec 32 := Scalar.select v1817 c1_i32_1407 c32_i32_1405
  let v1819 : BitVec 32 := Scalar.remsi v1816 v1818
  let c0_i32_1409 : BitVec 32 := 0#32
  let v1821 : BitVec 1 := Scalar.cmpi .slt v1819 c0_i32_1409
  let c0_i32_1410 : BitVec 32 := 0#32
  let v1822 : BitVec 1 := Scalar.cmpi .slt v1818 c0_i32_1410
  let v1823 : BitVec 1 := Scalar.xori v1821 v1822
  let c0_i32_1408 : BitVec 32 := 0#32
  let v1820 : BitVec 1 := Scalar.cmpi .ne v1819 c0_i32_1408
  let v1824 : BitVec 1 := Scalar.andi v1823 v1820
  let v1825 : BitVec 32 := Scalar.addi v1819 v1818
  let v1826 : BitVec 32 := Scalar.select v1824 v1825 v1819
  let c1_i32_1412 : BitVec 32 := 1#32
  let v1827 : BitVec 32 := Scalar.muli v1826 c1_i32_1412
  let v1828 : BitVec 32 := Scalar.addi c0_i32_1413 v1827
  v1828.toNat
def k0_dev72 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1418 : BitVec 32 := 10#32
  let v1837 : BitVec 32 := Scalar.addi v2 c10_i32_1418
  let c32_i32_1419 : BitVec 32 := 32#32
  let c0_i32_1420 : BitVec 32 := 0#32
  let v1838 : BitVec 1 := Scalar.cmpi .eq c32_i32_1419 c0_i32_1420
  let c1_i32_1421 : BitVec 32 := 1#32
  let v1839 : BitVec 32 := Scalar.select v1838 c1_i32_1421 c32_i32_1419
  let v1840 : BitVec 32 := Scalar.remsi v1837 v1839
  let c0_i32_1423 : BitVec 32 := 0#32
  let v1842 : BitVec 1 := Scalar.cmpi .slt v1840 c0_i32_1423
  let c0_i32_1424 : BitVec 32 := 0#32
  let v1843 : BitVec 1 := Scalar.cmpi .slt v1839 c0_i32_1424
  let v1844 : BitVec 1 := Scalar.xori v1842 v1843
  let c0_i32_1422 : BitVec 32 := 0#32
  let v1841 : BitVec 1 := Scalar.cmpi .ne v1840 c0_i32_1422
  let v1845 : BitVec 1 := Scalar.andi v1844 v1841
  let v1846 : BitVec 32 := Scalar.addi v1840 v1839
  let v1847 : BitVec 32 := Scalar.select v1845 v1846 v1840
  let c1_i32_1426 : BitVec 32 := 1#32
  let v1848 : BitVec 32 := Scalar.muli v1847 c1_i32_1426
  let v1849 : BitVec 32 := Scalar.addi c0_i32_1427 v1848
  v1849.toNat
def k0_dev73 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1432 : BitVec 32 := 11#32
  let v1858 : BitVec 32 := Scalar.addi v2 c11_i32_1432
  let c32_i32_1433 : BitVec 32 := 32#32
  let c0_i32_1434 : BitVec 32 := 0#32
  let v1859 : BitVec 1 := Scalar.cmpi .eq c32_i32_1433 c0_i32_1434
  let c1_i32_1435 : BitVec 32 := 1#32
  let v1860 : BitVec 32 := Scalar.select v1859 c1_i32_1435 c32_i32_1433
  let v1861 : BitVec 32 := Scalar.remsi v1858 v1860
  let c0_i32_1437 : BitVec 32 := 0#32
  let v1863 : BitVec 1 := Scalar.cmpi .slt v1861 c0_i32_1437
  let c0_i32_1438 : BitVec 32 := 0#32
  let v1864 : BitVec 1 := Scalar.cmpi .slt v1860 c0_i32_1438
  let v1865 : BitVec 1 := Scalar.xori v1863 v1864
  let c0_i32_1436 : BitVec 32 := 0#32
  let v1862 : BitVec 1 := Scalar.cmpi .ne v1861 c0_i32_1436
  let v1866 : BitVec 1 := Scalar.andi v1865 v1862
  let v1867 : BitVec 32 := Scalar.addi v1861 v1860
  let v1868 : BitVec 32 := Scalar.select v1866 v1867 v1861
  let c1_i32_1440 : BitVec 32 := 1#32
  let v1869 : BitVec 32 := Scalar.muli v1868 c1_i32_1440
  let v1870 : BitVec 32 := Scalar.addi c0_i32_1441 v1869
  v1870.toNat
def k0_dev74 (d0 : Dev nD) : Nat :=
  let c0_i32_1455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1446 : BitVec 32 := 12#32
  let v1879 : BitVec 32 := Scalar.addi v2 c12_i32_1446
  let c32_i32_1447 : BitVec 32 := 32#32
  let c0_i32_1448 : BitVec 32 := 0#32
  let v1880 : BitVec 1 := Scalar.cmpi .eq c32_i32_1447 c0_i32_1448
  let c1_i32_1449 : BitVec 32 := 1#32
  let v1881 : BitVec 32 := Scalar.select v1880 c1_i32_1449 c32_i32_1447
  let v1882 : BitVec 32 := Scalar.remsi v1879 v1881
  let c0_i32_1451 : BitVec 32 := 0#32
  let v1884 : BitVec 1 := Scalar.cmpi .slt v1882 c0_i32_1451
  let c0_i32_1452 : BitVec 32 := 0#32
  let v1885 : BitVec 1 := Scalar.cmpi .slt v1881 c0_i32_1452
  let v1886 : BitVec 1 := Scalar.xori v1884 v1885
  let c0_i32_1450 : BitVec 32 := 0#32
  let v1883 : BitVec 1 := Scalar.cmpi .ne v1882 c0_i32_1450
  let v1887 : BitVec 1 := Scalar.andi v1886 v1883
  let v1888 : BitVec 32 := Scalar.addi v1882 v1881
  let v1889 : BitVec 32 := Scalar.select v1887 v1888 v1882
  let c1_i32_1454 : BitVec 32 := 1#32
  let v1890 : BitVec 32 := Scalar.muli v1889 c1_i32_1454
  let v1891 : BitVec 32 := Scalar.addi c0_i32_1455 v1890
  v1891.toNat
def k0_dev75 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1460 : BitVec 32 := 13#32
  let v1900 : BitVec 32 := Scalar.addi v2 c13_i32_1460
  let c32_i32_1461 : BitVec 32 := 32#32
  let c0_i32_1462 : BitVec 32 := 0#32
  let v1901 : BitVec 1 := Scalar.cmpi .eq c32_i32_1461 c0_i32_1462
  let c1_i32_1463 : BitVec 32 := 1#32
  let v1902 : BitVec 32 := Scalar.select v1901 c1_i32_1463 c32_i32_1461
  let v1903 : BitVec 32 := Scalar.remsi v1900 v1902
  let c0_i32_1465 : BitVec 32 := 0#32
  let v1905 : BitVec 1 := Scalar.cmpi .slt v1903 c0_i32_1465
  let c0_i32_1466 : BitVec 32 := 0#32
  let v1906 : BitVec 1 := Scalar.cmpi .slt v1902 c0_i32_1466
  let v1907 : BitVec 1 := Scalar.xori v1905 v1906
  let c0_i32_1464 : BitVec 32 := 0#32
  let v1904 : BitVec 1 := Scalar.cmpi .ne v1903 c0_i32_1464
  let v1908 : BitVec 1 := Scalar.andi v1907 v1904
  let v1909 : BitVec 32 := Scalar.addi v1903 v1902
  let v1910 : BitVec 32 := Scalar.select v1908 v1909 v1903
  let c1_i32_1468 : BitVec 32 := 1#32
  let v1911 : BitVec 32 := Scalar.muli v1910 c1_i32_1468
  let v1912 : BitVec 32 := Scalar.addi c0_i32_1469 v1911
  v1912.toNat
def k0_dev76 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1474 : BitVec 32 := 14#32
  let v1921 : BitVec 32 := Scalar.addi v2 c14_i32_1474
  let c32_i32_1475 : BitVec 32 := 32#32
  let c0_i32_1476 : BitVec 32 := 0#32
  let v1922 : BitVec 1 := Scalar.cmpi .eq c32_i32_1475 c0_i32_1476
  let c1_i32_1477 : BitVec 32 := 1#32
  let v1923 : BitVec 32 := Scalar.select v1922 c1_i32_1477 c32_i32_1475
  let v1924 : BitVec 32 := Scalar.remsi v1921 v1923
  let c0_i32_1479 : BitVec 32 := 0#32
  let v1926 : BitVec 1 := Scalar.cmpi .slt v1924 c0_i32_1479
  let c0_i32_1480 : BitVec 32 := 0#32
  let v1927 : BitVec 1 := Scalar.cmpi .slt v1923 c0_i32_1480
  let v1928 : BitVec 1 := Scalar.xori v1926 v1927
  let c0_i32_1478 : BitVec 32 := 0#32
  let v1925 : BitVec 1 := Scalar.cmpi .ne v1924 c0_i32_1478
  let v1929 : BitVec 1 := Scalar.andi v1928 v1925
  let v1930 : BitVec 32 := Scalar.addi v1924 v1923
  let v1931 : BitVec 32 := Scalar.select v1929 v1930 v1924
  let c1_i32_1482 : BitVec 32 := 1#32
  let v1932 : BitVec 32 := Scalar.muli v1931 c1_i32_1482
  let v1933 : BitVec 32 := Scalar.addi c0_i32_1483 v1932
  v1933.toNat
def k0_dev77 (d0 : Dev nD) : Nat :=
  let c0_i32_1497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1488 : BitVec 32 := 15#32
  let v1942 : BitVec 32 := Scalar.addi v2 c15_i32_1488
  let c32_i32_1489 : BitVec 32 := 32#32
  let c0_i32_1490 : BitVec 32 := 0#32
  let v1943 : BitVec 1 := Scalar.cmpi .eq c32_i32_1489 c0_i32_1490
  let c1_i32_1491 : BitVec 32 := 1#32
  let v1944 : BitVec 32 := Scalar.select v1943 c1_i32_1491 c32_i32_1489
  let v1945 : BitVec 32 := Scalar.remsi v1942 v1944
  let c0_i32_1493 : BitVec 32 := 0#32
  let v1947 : BitVec 1 := Scalar.cmpi .slt v1945 c0_i32_1493
  let c0_i32_1494 : BitVec 32 := 0#32
  let v1948 : BitVec 1 := Scalar.cmpi .slt v1944 c0_i32_1494
  let v1949 : BitVec 1 := Scalar.xori v1947 v1948
  let c0_i32_1492 : BitVec 32 := 0#32
  let v1946 : BitVec 1 := Scalar.cmpi .ne v1945 c0_i32_1492
  let v1950 : BitVec 1 := Scalar.andi v1949 v1946
  let v1951 : BitVec 32 := Scalar.addi v1945 v1944
  let v1952 : BitVec 32 := Scalar.select v1950 v1951 v1945
  let c1_i32_1496 : BitVec 32 := 1#32
  let v1953 : BitVec 32 := Scalar.muli v1952 c1_i32_1496
  let v1954 : BitVec 32 := Scalar.addi c0_i32_1497 v1953
  v1954.toNat
def k0_dev78 (d0 : Dev nD) : Nat :=
  let c0_i32_1511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1502 : BitVec 32 := 16#32
  let v1963 : BitVec 32 := Scalar.addi v2 c16_i32_1502
  let c32_i32_1503 : BitVec 32 := 32#32
  let c0_i32_1504 : BitVec 32 := 0#32
  let v1964 : BitVec 1 := Scalar.cmpi .eq c32_i32_1503 c0_i32_1504
  let c1_i32_1505 : BitVec 32 := 1#32
  let v1965 : BitVec 32 := Scalar.select v1964 c1_i32_1505 c32_i32_1503
  let v1966 : BitVec 32 := Scalar.remsi v1963 v1965
  let c0_i32_1507 : BitVec 32 := 0#32
  let v1968 : BitVec 1 := Scalar.cmpi .slt v1966 c0_i32_1507
  let c0_i32_1508 : BitVec 32 := 0#32
  let v1969 : BitVec 1 := Scalar.cmpi .slt v1965 c0_i32_1508
  let v1970 : BitVec 1 := Scalar.xori v1968 v1969
  let c0_i32_1506 : BitVec 32 := 0#32
  let v1967 : BitVec 1 := Scalar.cmpi .ne v1966 c0_i32_1506
  let v1971 : BitVec 1 := Scalar.andi v1970 v1967
  let v1972 : BitVec 32 := Scalar.addi v1966 v1965
  let v1973 : BitVec 32 := Scalar.select v1971 v1972 v1966
  let c1_i32_1510 : BitVec 32 := 1#32
  let v1974 : BitVec 32 := Scalar.muli v1973 c1_i32_1510
  let v1975 : BitVec 32 := Scalar.addi c0_i32_1511 v1974
  v1975.toNat
def k0_dev79 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1516 : BitVec 32 := 17#32
  let v1984 : BitVec 32 := Scalar.addi v2 c17_i32_1516
  let c32_i32_1517 : BitVec 32 := 32#32
  let c0_i32_1518 : BitVec 32 := 0#32
  let v1985 : BitVec 1 := Scalar.cmpi .eq c32_i32_1517 c0_i32_1518
  let c1_i32_1519 : BitVec 32 := 1#32
  let v1986 : BitVec 32 := Scalar.select v1985 c1_i32_1519 c32_i32_1517
  let v1987 : BitVec 32 := Scalar.remsi v1984 v1986
  let c0_i32_1521 : BitVec 32 := 0#32
  let v1989 : BitVec 1 := Scalar.cmpi .slt v1987 c0_i32_1521
  let c0_i32_1522 : BitVec 32 := 0#32
  let v1990 : BitVec 1 := Scalar.cmpi .slt v1986 c0_i32_1522
  let v1991 : BitVec 1 := Scalar.xori v1989 v1990
  let c0_i32_1520 : BitVec 32 := 0#32
  let v1988 : BitVec 1 := Scalar.cmpi .ne v1987 c0_i32_1520
  let v1992 : BitVec 1 := Scalar.andi v1991 v1988
  let v1993 : BitVec 32 := Scalar.addi v1987 v1986
  let v1994 : BitVec 32 := Scalar.select v1992 v1993 v1987
  let c1_i32_1524 : BitVec 32 := 1#32
  let v1995 : BitVec 32 := Scalar.muli v1994 c1_i32_1524
  let v1996 : BitVec 32 := Scalar.addi c0_i32_1525 v1995
  v1996.toNat
def k0_dev80 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1530 : BitVec 32 := 18#32
  let v2005 : BitVec 32 := Scalar.addi v2 c18_i32_1530
  let c32_i32_1531 : BitVec 32 := 32#32
  let c0_i32_1532 : BitVec 32 := 0#32
  let v2006 : BitVec 1 := Scalar.cmpi .eq c32_i32_1531 c0_i32_1532
  let c1_i32_1533 : BitVec 32 := 1#32
  let v2007 : BitVec 32 := Scalar.select v2006 c1_i32_1533 c32_i32_1531
  let v2008 : BitVec 32 := Scalar.remsi v2005 v2007
  let c0_i32_1535 : BitVec 32 := 0#32
  let v2010 : BitVec 1 := Scalar.cmpi .slt v2008 c0_i32_1535
  let c0_i32_1536 : BitVec 32 := 0#32
  let v2011 : BitVec 1 := Scalar.cmpi .slt v2007 c0_i32_1536
  let v2012 : BitVec 1 := Scalar.xori v2010 v2011
  let c0_i32_1534 : BitVec 32 := 0#32
  let v2009 : BitVec 1 := Scalar.cmpi .ne v2008 c0_i32_1534
  let v2013 : BitVec 1 := Scalar.andi v2012 v2009
  let v2014 : BitVec 32 := Scalar.addi v2008 v2007
  let v2015 : BitVec 32 := Scalar.select v2013 v2014 v2008
  let c1_i32_1538 : BitVec 32 := 1#32
  let v2016 : BitVec 32 := Scalar.muli v2015 c1_i32_1538
  let v2017 : BitVec 32 := Scalar.addi c0_i32_1539 v2016
  v2017.toNat
def k0_dev81 (d0 : Dev nD) : Nat :=
  let c0_i32_1553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1544 : BitVec 32 := 19#32
  let v2026 : BitVec 32 := Scalar.addi v2 c19_i32_1544
  let c32_i32_1545 : BitVec 32 := 32#32
  let c0_i32_1546 : BitVec 32 := 0#32
  let v2027 : BitVec 1 := Scalar.cmpi .eq c32_i32_1545 c0_i32_1546
  let c1_i32_1547 : BitVec 32 := 1#32
  let v2028 : BitVec 32 := Scalar.select v2027 c1_i32_1547 c32_i32_1545
  let v2029 : BitVec 32 := Scalar.remsi v2026 v2028
  let c0_i32_1549 : BitVec 32 := 0#32
  let v2031 : BitVec 1 := Scalar.cmpi .slt v2029 c0_i32_1549
  let c0_i32_1550 : BitVec 32 := 0#32
  let v2032 : BitVec 1 := Scalar.cmpi .slt v2028 c0_i32_1550
  let v2033 : BitVec 1 := Scalar.xori v2031 v2032
  let c0_i32_1548 : BitVec 32 := 0#32
  let v2030 : BitVec 1 := Scalar.cmpi .ne v2029 c0_i32_1548
  let v2034 : BitVec 1 := Scalar.andi v2033 v2030
  let v2035 : BitVec 32 := Scalar.addi v2029 v2028
  let v2036 : BitVec 32 := Scalar.select v2034 v2035 v2029
  let c1_i32_1552 : BitVec 32 := 1#32
  let v2037 : BitVec 32 := Scalar.muli v2036 c1_i32_1552
  let v2038 : BitVec 32 := Scalar.addi c0_i32_1553 v2037
  v2038.toNat
def k0_dev82 (d0 : Dev nD) : Nat :=
  let c0_i32_1567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1558 : BitVec 32 := 20#32
  let v2047 : BitVec 32 := Scalar.addi v2 c20_i32_1558
  let c32_i32_1559 : BitVec 32 := 32#32
  let c0_i32_1560 : BitVec 32 := 0#32
  let v2048 : BitVec 1 := Scalar.cmpi .eq c32_i32_1559 c0_i32_1560
  let c1_i32_1561 : BitVec 32 := 1#32
  let v2049 : BitVec 32 := Scalar.select v2048 c1_i32_1561 c32_i32_1559
  let v2050 : BitVec 32 := Scalar.remsi v2047 v2049
  let c0_i32_1563 : BitVec 32 := 0#32
  let v2052 : BitVec 1 := Scalar.cmpi .slt v2050 c0_i32_1563
  let c0_i32_1564 : BitVec 32 := 0#32
  let v2053 : BitVec 1 := Scalar.cmpi .slt v2049 c0_i32_1564
  let v2054 : BitVec 1 := Scalar.xori v2052 v2053
  let c0_i32_1562 : BitVec 32 := 0#32
  let v2051 : BitVec 1 := Scalar.cmpi .ne v2050 c0_i32_1562
  let v2055 : BitVec 1 := Scalar.andi v2054 v2051
  let v2056 : BitVec 32 := Scalar.addi v2050 v2049
  let v2057 : BitVec 32 := Scalar.select v2055 v2056 v2050
  let c1_i32_1566 : BitVec 32 := 1#32
  let v2058 : BitVec 32 := Scalar.muli v2057 c1_i32_1566
  let v2059 : BitVec 32 := Scalar.addi c0_i32_1567 v2058
  v2059.toNat
def k0_dev83 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1572 : BitVec 32 := 21#32
  let v2068 : BitVec 32 := Scalar.addi v2 c21_i32_1572
  let c32_i32_1573 : BitVec 32 := 32#32
  let c0_i32_1574 : BitVec 32 := 0#32
  let v2069 : BitVec 1 := Scalar.cmpi .eq c32_i32_1573 c0_i32_1574
  let c1_i32_1575 : BitVec 32 := 1#32
  let v2070 : BitVec 32 := Scalar.select v2069 c1_i32_1575 c32_i32_1573
  let v2071 : BitVec 32 := Scalar.remsi v2068 v2070
  let c0_i32_1577 : BitVec 32 := 0#32
  let v2073 : BitVec 1 := Scalar.cmpi .slt v2071 c0_i32_1577
  let c0_i32_1578 : BitVec 32 := 0#32
  let v2074 : BitVec 1 := Scalar.cmpi .slt v2070 c0_i32_1578
  let v2075 : BitVec 1 := Scalar.xori v2073 v2074
  let c0_i32_1576 : BitVec 32 := 0#32
  let v2072 : BitVec 1 := Scalar.cmpi .ne v2071 c0_i32_1576
  let v2076 : BitVec 1 := Scalar.andi v2075 v2072
  let v2077 : BitVec 32 := Scalar.addi v2071 v2070
  let v2078 : BitVec 32 := Scalar.select v2076 v2077 v2071
  let c1_i32_1580 : BitVec 32 := 1#32
  let v2079 : BitVec 32 := Scalar.muli v2078 c1_i32_1580
  let v2080 : BitVec 32 := Scalar.addi c0_i32_1581 v2079
  v2080.toNat
def k0_dev84 (d0 : Dev nD) : Nat :=
  let c0_i32_1595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1586 : BitVec 32 := 22#32
  let v2089 : BitVec 32 := Scalar.addi v2 c22_i32_1586
  let c32_i32_1587 : BitVec 32 := 32#32
  let c0_i32_1588 : BitVec 32 := 0#32
  let v2090 : BitVec 1 := Scalar.cmpi .eq c32_i32_1587 c0_i32_1588
  let c1_i32_1589 : BitVec 32 := 1#32
  let v2091 : BitVec 32 := Scalar.select v2090 c1_i32_1589 c32_i32_1587
  let v2092 : BitVec 32 := Scalar.remsi v2089 v2091
  let c0_i32_1591 : BitVec 32 := 0#32
  let v2094 : BitVec 1 := Scalar.cmpi .slt v2092 c0_i32_1591
  let c0_i32_1592 : BitVec 32 := 0#32
  let v2095 : BitVec 1 := Scalar.cmpi .slt v2091 c0_i32_1592
  let v2096 : BitVec 1 := Scalar.xori v2094 v2095
  let c0_i32_1590 : BitVec 32 := 0#32
  let v2093 : BitVec 1 := Scalar.cmpi .ne v2092 c0_i32_1590
  let v2097 : BitVec 1 := Scalar.andi v2096 v2093
  let v2098 : BitVec 32 := Scalar.addi v2092 v2091
  let v2099 : BitVec 32 := Scalar.select v2097 v2098 v2092
  let c1_i32_1594 : BitVec 32 := 1#32
  let v2100 : BitVec 32 := Scalar.muli v2099 c1_i32_1594
  let v2101 : BitVec 32 := Scalar.addi c0_i32_1595 v2100
  v2101.toNat
def k0_dev85 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1600 : BitVec 32 := 23#32
  let v2110 : BitVec 32 := Scalar.addi v2 c23_i32_1600
  let c32_i32_1601 : BitVec 32 := 32#32
  let c0_i32_1602 : BitVec 32 := 0#32
  let v2111 : BitVec 1 := Scalar.cmpi .eq c32_i32_1601 c0_i32_1602
  let c1_i32_1603 : BitVec 32 := 1#32
  let v2112 : BitVec 32 := Scalar.select v2111 c1_i32_1603 c32_i32_1601
  let v2113 : BitVec 32 := Scalar.remsi v2110 v2112
  let c0_i32_1605 : BitVec 32 := 0#32
  let v2115 : BitVec 1 := Scalar.cmpi .slt v2113 c0_i32_1605
  let c0_i32_1606 : BitVec 32 := 0#32
  let v2116 : BitVec 1 := Scalar.cmpi .slt v2112 c0_i32_1606
  let v2117 : BitVec 1 := Scalar.xori v2115 v2116
  let c0_i32_1604 : BitVec 32 := 0#32
  let v2114 : BitVec 1 := Scalar.cmpi .ne v2113 c0_i32_1604
  let v2118 : BitVec 1 := Scalar.andi v2117 v2114
  let v2119 : BitVec 32 := Scalar.addi v2113 v2112
  let v2120 : BitVec 32 := Scalar.select v2118 v2119 v2113
  let c1_i32_1608 : BitVec 32 := 1#32
  let v2121 : BitVec 32 := Scalar.muli v2120 c1_i32_1608
  let v2122 : BitVec 32 := Scalar.addi c0_i32_1609 v2121
  v2122.toNat
def k0_dev86 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1614 : BitVec 32 := 24#32
  let v2131 : BitVec 32 := Scalar.addi v2 c24_i32_1614
  let c32_i32_1615 : BitVec 32 := 32#32
  let c0_i32_1616 : BitVec 32 := 0#32
  let v2132 : BitVec 1 := Scalar.cmpi .eq c32_i32_1615 c0_i32_1616
  let c1_i32_1617 : BitVec 32 := 1#32
  let v2133 : BitVec 32 := Scalar.select v2132 c1_i32_1617 c32_i32_1615
  let v2134 : BitVec 32 := Scalar.remsi v2131 v2133
  let c0_i32_1619 : BitVec 32 := 0#32
  let v2136 : BitVec 1 := Scalar.cmpi .slt v2134 c0_i32_1619
  let c0_i32_1620 : BitVec 32 := 0#32
  let v2137 : BitVec 1 := Scalar.cmpi .slt v2133 c0_i32_1620
  let v2138 : BitVec 1 := Scalar.xori v2136 v2137
  let c0_i32_1618 : BitVec 32 := 0#32
  let v2135 : BitVec 1 := Scalar.cmpi .ne v2134 c0_i32_1618
  let v2139 : BitVec 1 := Scalar.andi v2138 v2135
  let v2140 : BitVec 32 := Scalar.addi v2134 v2133
  let v2141 : BitVec 32 := Scalar.select v2139 v2140 v2134
  let c1_i32_1622 : BitVec 32 := 1#32
  let v2142 : BitVec 32 := Scalar.muli v2141 c1_i32_1622
  let v2143 : BitVec 32 := Scalar.addi c0_i32_1623 v2142
  v2143.toNat
def k0_dev87 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1628 : BitVec 32 := 25#32
  let v2152 : BitVec 32 := Scalar.addi v2 c25_i32_1628
  let c32_i32_1629 : BitVec 32 := 32#32
  let c0_i32_1630 : BitVec 32 := 0#32
  let v2153 : BitVec 1 := Scalar.cmpi .eq c32_i32_1629 c0_i32_1630
  let c1_i32_1631 : BitVec 32 := 1#32
  let v2154 : BitVec 32 := Scalar.select v2153 c1_i32_1631 c32_i32_1629
  let v2155 : BitVec 32 := Scalar.remsi v2152 v2154
  let c0_i32_1633 : BitVec 32 := 0#32
  let v2157 : BitVec 1 := Scalar.cmpi .slt v2155 c0_i32_1633
  let c0_i32_1634 : BitVec 32 := 0#32
  let v2158 : BitVec 1 := Scalar.cmpi .slt v2154 c0_i32_1634
  let v2159 : BitVec 1 := Scalar.xori v2157 v2158
  let c0_i32_1632 : BitVec 32 := 0#32
  let v2156 : BitVec 1 := Scalar.cmpi .ne v2155 c0_i32_1632
  let v2160 : BitVec 1 := Scalar.andi v2159 v2156
  let v2161 : BitVec 32 := Scalar.addi v2155 v2154
  let v2162 : BitVec 32 := Scalar.select v2160 v2161 v2155
  let c1_i32_1636 : BitVec 32 := 1#32
  let v2163 : BitVec 32 := Scalar.muli v2162 c1_i32_1636
  let v2164 : BitVec 32 := Scalar.addi c0_i32_1637 v2163
  v2164.toNat
def k0_dev88 (d0 : Dev nD) : Nat :=
  let c0_i32_1651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1642 : BitVec 32 := 26#32
  let v2173 : BitVec 32 := Scalar.addi v2 c26_i32_1642
  let c32_i32_1643 : BitVec 32 := 32#32
  let c0_i32_1644 : BitVec 32 := 0#32
  let v2174 : BitVec 1 := Scalar.cmpi .eq c32_i32_1643 c0_i32_1644
  let c1_i32_1645 : BitVec 32 := 1#32
  let v2175 : BitVec 32 := Scalar.select v2174 c1_i32_1645 c32_i32_1643
  let v2176 : BitVec 32 := Scalar.remsi v2173 v2175
  let c0_i32_1647 : BitVec 32 := 0#32
  let v2178 : BitVec 1 := Scalar.cmpi .slt v2176 c0_i32_1647
  let c0_i32_1648 : BitVec 32 := 0#32
  let v2179 : BitVec 1 := Scalar.cmpi .slt v2175 c0_i32_1648
  let v2180 : BitVec 1 := Scalar.xori v2178 v2179
  let c0_i32_1646 : BitVec 32 := 0#32
  let v2177 : BitVec 1 := Scalar.cmpi .ne v2176 c0_i32_1646
  let v2181 : BitVec 1 := Scalar.andi v2180 v2177
  let v2182 : BitVec 32 := Scalar.addi v2176 v2175
  let v2183 : BitVec 32 := Scalar.select v2181 v2182 v2176
  let c1_i32_1650 : BitVec 32 := 1#32
  let v2184 : BitVec 32 := Scalar.muli v2183 c1_i32_1650
  let v2185 : BitVec 32 := Scalar.addi c0_i32_1651 v2184
  v2185.toNat
def k0_dev89 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1656 : BitVec 32 := 27#32
  let v2194 : BitVec 32 := Scalar.addi v2 c27_i32_1656
  let c32_i32_1657 : BitVec 32 := 32#32
  let c0_i32_1658 : BitVec 32 := 0#32
  let v2195 : BitVec 1 := Scalar.cmpi .eq c32_i32_1657 c0_i32_1658
  let c1_i32_1659 : BitVec 32 := 1#32
  let v2196 : BitVec 32 := Scalar.select v2195 c1_i32_1659 c32_i32_1657
  let v2197 : BitVec 32 := Scalar.remsi v2194 v2196
  let c0_i32_1661 : BitVec 32 := 0#32
  let v2199 : BitVec 1 := Scalar.cmpi .slt v2197 c0_i32_1661
  let c0_i32_1662 : BitVec 32 := 0#32
  let v2200 : BitVec 1 := Scalar.cmpi .slt v2196 c0_i32_1662
  let v2201 : BitVec 1 := Scalar.xori v2199 v2200
  let c0_i32_1660 : BitVec 32 := 0#32
  let v2198 : BitVec 1 := Scalar.cmpi .ne v2197 c0_i32_1660
  let v2202 : BitVec 1 := Scalar.andi v2201 v2198
  let v2203 : BitVec 32 := Scalar.addi v2197 v2196
  let v2204 : BitVec 32 := Scalar.select v2202 v2203 v2197
  let c1_i32_1664 : BitVec 32 := 1#32
  let v2205 : BitVec 32 := Scalar.muli v2204 c1_i32_1664
  let v2206 : BitVec 32 := Scalar.addi c0_i32_1665 v2205
  v2206.toNat
def k0_dev90 (d0 : Dev nD) : Nat :=
  let c0_i32_1679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1670 : BitVec 32 := 28#32
  let v2215 : BitVec 32 := Scalar.addi v2 c28_i32_1670
  let c32_i32_1671 : BitVec 32 := 32#32
  let c0_i32_1672 : BitVec 32 := 0#32
  let v2216 : BitVec 1 := Scalar.cmpi .eq c32_i32_1671 c0_i32_1672
  let c1_i32_1673 : BitVec 32 := 1#32
  let v2217 : BitVec 32 := Scalar.select v2216 c1_i32_1673 c32_i32_1671
  let v2218 : BitVec 32 := Scalar.remsi v2215 v2217
  let c0_i32_1675 : BitVec 32 := 0#32
  let v2220 : BitVec 1 := Scalar.cmpi .slt v2218 c0_i32_1675
  let c0_i32_1676 : BitVec 32 := 0#32
  let v2221 : BitVec 1 := Scalar.cmpi .slt v2217 c0_i32_1676
  let v2222 : BitVec 1 := Scalar.xori v2220 v2221
  let c0_i32_1674 : BitVec 32 := 0#32
  let v2219 : BitVec 1 := Scalar.cmpi .ne v2218 c0_i32_1674
  let v2223 : BitVec 1 := Scalar.andi v2222 v2219
  let v2224 : BitVec 32 := Scalar.addi v2218 v2217
  let v2225 : BitVec 32 := Scalar.select v2223 v2224 v2218
  let c1_i32_1678 : BitVec 32 := 1#32
  let v2226 : BitVec 32 := Scalar.muli v2225 c1_i32_1678
  let v2227 : BitVec 32 := Scalar.addi c0_i32_1679 v2226
  v2227.toNat
def k0_dev91 (d0 : Dev nD) : Nat :=
  let c0_i32_1693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1684 : BitVec 32 := 29#32
  let v2236 : BitVec 32 := Scalar.addi v2 c29_i32_1684
  let c32_i32_1685 : BitVec 32 := 32#32
  let c0_i32_1686 : BitVec 32 := 0#32
  let v2237 : BitVec 1 := Scalar.cmpi .eq c32_i32_1685 c0_i32_1686
  let c1_i32_1687 : BitVec 32 := 1#32
  let v2238 : BitVec 32 := Scalar.select v2237 c1_i32_1687 c32_i32_1685
  let v2239 : BitVec 32 := Scalar.remsi v2236 v2238
  let c0_i32_1689 : BitVec 32 := 0#32
  let v2241 : BitVec 1 := Scalar.cmpi .slt v2239 c0_i32_1689
  let c0_i32_1690 : BitVec 32 := 0#32
  let v2242 : BitVec 1 := Scalar.cmpi .slt v2238 c0_i32_1690
  let v2243 : BitVec 1 := Scalar.xori v2241 v2242
  let c0_i32_1688 : BitVec 32 := 0#32
  let v2240 : BitVec 1 := Scalar.cmpi .ne v2239 c0_i32_1688
  let v2244 : BitVec 1 := Scalar.andi v2243 v2240
  let v2245 : BitVec 32 := Scalar.addi v2239 v2238
  let v2246 : BitVec 32 := Scalar.select v2244 v2245 v2239
  let c1_i32_1692 : BitVec 32 := 1#32
  let v2247 : BitVec 32 := Scalar.muli v2246 c1_i32_1692
  let v2248 : BitVec 32 := Scalar.addi c0_i32_1693 v2247
  v2248.toNat
def k0_dev92 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1698 : BitVec 32 := 30#32
  let v2257 : BitVec 32 := Scalar.addi v2 c30_i32_1698
  let c32_i32_1699 : BitVec 32 := 32#32
  let c0_i32_1700 : BitVec 32 := 0#32
  let v2258 : BitVec 1 := Scalar.cmpi .eq c32_i32_1699 c0_i32_1700
  let c1_i32_1701 : BitVec 32 := 1#32
  let v2259 : BitVec 32 := Scalar.select v2258 c1_i32_1701 c32_i32_1699
  let v2260 : BitVec 32 := Scalar.remsi v2257 v2259
  let c0_i32_1703 : BitVec 32 := 0#32
  let v2262 : BitVec 1 := Scalar.cmpi .slt v2260 c0_i32_1703
  let c0_i32_1704 : BitVec 32 := 0#32
  let v2263 : BitVec 1 := Scalar.cmpi .slt v2259 c0_i32_1704
  let v2264 : BitVec 1 := Scalar.xori v2262 v2263
  let c0_i32_1702 : BitVec 32 := 0#32
  let v2261 : BitVec 1 := Scalar.cmpi .ne v2260 c0_i32_1702
  let v2265 : BitVec 1 := Scalar.andi v2264 v2261
  let v2266 : BitVec 32 := Scalar.addi v2260 v2259
  let v2267 : BitVec 32 := Scalar.select v2265 v2266 v2260
  let c1_i32_1706 : BitVec 32 := 1#32
  let v2268 : BitVec 32 := Scalar.muli v2267 c1_i32_1706
  let v2269 : BitVec 32 := Scalar.addi c0_i32_1707 v2268
  v2269.toNat
def k0_dev93 (d0 : Dev nD) : Nat :=
  let c0_i32_1721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1712 : BitVec 32 := 31#32
  let v2278 : BitVec 32 := Scalar.addi v2 c31_i32_1712
  let c32_i32_1713 : BitVec 32 := 32#32
  let c0_i32_1714 : BitVec 32 := 0#32
  let v2279 : BitVec 1 := Scalar.cmpi .eq c32_i32_1713 c0_i32_1714
  let c1_i32_1715 : BitVec 32 := 1#32
  let v2280 : BitVec 32 := Scalar.select v2279 c1_i32_1715 c32_i32_1713
  let v2281 : BitVec 32 := Scalar.remsi v2278 v2280
  let c0_i32_1717 : BitVec 32 := 0#32
  let v2283 : BitVec 1 := Scalar.cmpi .slt v2281 c0_i32_1717
  let c0_i32_1718 : BitVec 32 := 0#32
  let v2284 : BitVec 1 := Scalar.cmpi .slt v2280 c0_i32_1718
  let v2285 : BitVec 1 := Scalar.xori v2283 v2284
  let c0_i32_1716 : BitVec 32 := 0#32
  let v2282 : BitVec 1 := Scalar.cmpi .ne v2281 c0_i32_1716
  let v2286 : BitVec 1 := Scalar.andi v2285 v2282
  let v2287 : BitVec 32 := Scalar.addi v2281 v2280
  let v2288 : BitVec 32 := Scalar.select v2286 v2287 v2281
  let c1_i32_1720 : BitVec 32 := 1#32
  let v2289 : BitVec 32 := Scalar.muli v2288 c1_i32_1720
  let v2290 : BitVec 32 := Scalar.addi c0_i32_1721 v2289
  v2290.toNat
def k0_off6 (d0 : Dev nD) (c1_i32_1726 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2299 : BitVec 32 := Scalar.subi v2 c1_i32_1726
  let c32_i32_1727 : BitVec 32 := 32#32
  let c0_i32_1728 : BitVec 32 := 0#32
  let v2300 : BitVec 1 := Scalar.cmpi .eq c32_i32_1727 c0_i32_1728
  let c1_i32_1729 : BitVec 32 := 1#32
  let v2301 : BitVec 32 := Scalar.select v2300 c1_i32_1729 c32_i32_1727
  let v2302 : BitVec 32 := Scalar.remsi v2299 v2301
  let c0_i32_1731 : BitVec 32 := 0#32
  let v2304 : BitVec 1 := Scalar.cmpi .slt v2302 c0_i32_1731
  let c0_i32_1732 : BitVec 32 := 0#32
  let v2305 : BitVec 1 := Scalar.cmpi .slt v2301 c0_i32_1732
  let v2306 : BitVec 1 := Scalar.xori v2304 v2305
  let c0_i32_1730 : BitVec 32 := 0#32
  let v2303 : BitVec 1 := Scalar.cmpi .ne v2302 c0_i32_1730
  let v2307 : BitVec 1 := Scalar.andi v2306 v2303
  let v2308 : BitVec 32 := Scalar.addi v2302 v2301
  let v2309 : BitVec 32 := Scalar.select v2307 v2308 v2302
  ![v2309.toNat]
def k0_off7 (d0 : Dev nD) (c1_i32_1726 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2299 : BitVec 32 := Scalar.subi v2 c1_i32_1726
  let c32_i32_1727 : BitVec 32 := 32#32
  let c0_i32_1728 : BitVec 32 := 0#32
  let v2300 : BitVec 1 := Scalar.cmpi .eq c32_i32_1727 c0_i32_1728
  let c1_i32_1729 : BitVec 32 := 1#32
  let v2301 : BitVec 32 := Scalar.select v2300 c1_i32_1729 c32_i32_1727
  let v2302 : BitVec 32 := Scalar.remsi v2299 v2301
  let c0_i32_1731 : BitVec 32 := 0#32
  let v2304 : BitVec 1 := Scalar.cmpi .slt v2302 c0_i32_1731
  let c0_i32_1732 : BitVec 32 := 0#32
  let v2305 : BitVec 1 := Scalar.cmpi .slt v2301 c0_i32_1732
  let v2306 : BitVec 1 := Scalar.xori v2304 v2305
  let c0_i32_1730 : BitVec 32 := 0#32
  let v2303 : BitVec 1 := Scalar.cmpi .ne v2302 c0_i32_1730
  let v2307 : BitVec 1 := Scalar.andi v2306 v2303
  let v2308 : BitVec 32 := Scalar.addi v2302 v2301
  let v2309 : BitVec 32 := Scalar.select v2307 v2308 v2302
  let c0_i32_1736 : BitVec 32 := 0#32
  let c0_i32_1737 : BitVec 32 := 0#32
  ![v2309.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x512 : Shape := ⟨2, ![512, 512]⟩
abbrev S512x32768 : Shape := ⟨2, ![512, 32768]⟩
abbrev S32768x512 : Shape := ⟨2, ![32768, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x32768, .f32⟩
  | .hbm, ⟨2, _⟩ => ⟨S32768x512, .f32⟩
  | .hbm, ⟨3, _⟩ => ⟨S512x32768, .f32⟩
  | .hbm, ⟨4, _⟩ => ⟨S_, .f32⟩
  | .hbm, ⟨5, _⟩ => ⟨S512x32768, .f32⟩
  | .hbm, ⟨6, _⟩ => ⟨S512x32768, .f32⟩
  | .hbm, ⟨7, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Loops.lean ====
/- The kernel's body as seven straight stretches of thirty-one like operations each, and the proof that the
   printed body is it. Everything later is proved of one operation at an arbitrary place `r` of its stretch. -/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-! ## The devices the operations name -/

/-- The device the `r`-th barrier signal of device `c` goes to. -/
def dstBar (c : Dev nD) : Fin 31 → Dev nD :=
  ![⟨k0_dev1 c, k0_dev1_lt c⟩, ⟨k0_dev2 c, k0_dev2_lt c⟩, ⟨k0_dev3 c, k0_dev3_lt c⟩,
    ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩,
    ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩,
    ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩, ⟨k0_dev21 c, k0_dev21_lt c⟩,
    ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩,
    ⟨k0_dev28 c, k0_dev28_lt c⟩, ⟨k0_dev29 c, k0_dev29_lt c⟩, ⟨k0_dev30 c, k0_dev30_lt c⟩,
    ⟨k0_dev31 c, k0_dev31_lt c⟩]

/-- The device the `r`-th copy of the scatter phase of device `c` goes to. -/
def dstRs (c : Dev nD) : Fin 31 → Dev nD :=
  ![⟨k0_dev32 c, k0_dev32_lt c⟩, ⟨k0_dev33 c, k0_dev33_lt c⟩, ⟨k0_dev34 c, k0_dev34_lt c⟩,
    ⟨k0_dev35 c, k0_dev35_lt c⟩, ⟨k0_dev36 c, k0_dev36_lt c⟩, ⟨k0_dev37 c, k0_dev37_lt c⟩,
    ⟨k0_dev38 c, k0_dev38_lt c⟩, ⟨k0_dev39 c, k0_dev39_lt c⟩, ⟨k0_dev40 c, k0_dev40_lt c⟩,
    ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩,
    ⟨k0_dev47 c, k0_dev47_lt c⟩, ⟨k0_dev48 c, k0_dev48_lt c⟩, ⟨k0_dev49 c, k0_dev49_lt c⟩,
    ⟨k0_dev50 c, k0_dev50_lt c⟩, ⟨k0_dev51 c, k0_dev51_lt c⟩, ⟨k0_dev52 c, k0_dev52_lt c⟩,
    ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩,
    ⟨k0_dev59 c, k0_dev59_lt c⟩, ⟨k0_dev60 c, k0_dev60_lt c⟩, ⟨k0_dev61 c, k0_dev61_lt c⟩,
    ⟨k0_dev62 c, k0_dev62_lt c⟩]

/-- The device the `r`-th copy of the gather phase of device `c` goes to. -/
def dstAg (c : Dev nD) : Fin 31 → Dev nD :=
  ![⟨k0_dev63 c, k0_dev63_lt c⟩, ⟨k0_dev64 c, k0_dev64_lt c⟩, ⟨k0_dev65 c, k0_dev65_lt c⟩,
    ⟨k0_dev66 c, k0_dev66_lt c⟩, ⟨k0_dev67 c, k0_dev67_lt c⟩, ⟨k0_dev68 c, k0_dev68_lt c⟩,
    ⟨k0_dev69 c, k0_dev69_lt c⟩, ⟨k0_dev70 c, k0_dev70_lt c⟩, ⟨k0_dev71 c, k0_dev71_lt c⟩,
    ⟨k0_dev72 c, k0_dev72_lt c⟩, ⟨k0_dev73 c, k0_dev73_lt c⟩, ⟨k0_dev74 c, k0_dev74_lt c⟩,
    ⟨k0_dev75 c, k0_dev75_lt c⟩, ⟨k0_dev76 c, k0_dev76_lt c⟩, ⟨k0_dev77 c, k0_dev77_lt c⟩,
    ⟨k0_dev78 c, k0_dev78_lt c⟩, ⟨k0_dev79 c, k0_dev79_lt c⟩, ⟨k0_dev80 c, k0_dev80_lt c⟩,
    ⟨k0_dev81 c, k0_dev81_lt c⟩, ⟨k0_dev82 c, k0_dev82_lt c⟩, ⟨k0_dev83 c, k0_dev83_lt c⟩,
    ⟨k0_dev84 c, k0_dev84_lt c⟩, ⟨k0_dev85 c, k0_dev85_lt c⟩, ⟨k0_dev86 c, k0_dev86_lt c⟩,
    ⟨k0_dev87 c, k0_dev87_lt c⟩, ⟨k0_dev88 c, k0_dev88_lt c⟩, ⟨k0_dev89 c, k0_dev89_lt c⟩,
    ⟨k0_dev90 c, k0_dev90_lt c⟩, ⟨k0_dev91 c, k0_dev91_lt c⟩, ⟨k0_dev92 c, k0_dev92_lt c⟩,
    ⟨k0_dev93 c, k0_dev93_lt c⟩]

/-- The device `r + 1` places after `c`, around the mesh of thirty-two. -/
def fwd (c : Dev nD) (r : Fin 31) : Dev nD := ⟨(c.val + (r.val + 1)) % 32, Nat.mod_lt _ (by decide)⟩
/-- The device `r + 1` places before `c`. -/
def bwd (c : Dev nD) (r : Fin 31) : Dev nD := ⟨(c.val + (31 - r.val)) % 32, Nat.mod_lt _ (by decide)⟩

/-- The `r`-th signal of the barrier goes to the device `r + 1` places after. -/
theorem dstBar_eq : ∀ (c : Dev nD) (r : Fin 31), dstBar c r = fwd c r := by decide +kernel
/-- The `r`-th copy of the scatter phase goes to the device `r + 1` places after. -/
theorem dstRs_eq : ∀ (c : Dev nD) (r : Fin 31), dstRs c r = fwd c r := by decide +kernel
/-- The `r`-th copy of the gather phase goes to the device `r + 1` places after. -/
theorem dstAg_eq : ∀ (c : Dev nD) (r : Fin 31), dstAg c r = fwd c r := by decide +kernel

/-! ## The buffers, their pieces, and the semaphores -/

abbrev xM : Memref sig .tc .vmem S512x512 .f32 := Memref.whole cc0_stg0_0
abbrev w1M : Memref sig .tc .vmem S512x1024 .f32 := Memref.whole cc0_stg1_0
abbrev w2M : Memref sig .tc .vmem S1024x512 .f32 := Memref.whole cc0_stg2_0
abbrev oM : Memref sig .tc .vmem S512x512 .f32 := Memref.whole cc0_stg3_0
/-- The buffer a device's partial product is sent from. -/
abbrev sM : Memref sig .tc .vmem S512x512 .bf16 := Memref.whole cc0_scratch0
/-- The buffer the thirty-two parts of a device's own chunk arrive in. -/
abbrev vM : Memref sig .tc .vmem S32x16x512 .bf16 := Memref.whole cc0_scratch1
/-- The buffer the thirty-two summed chunks are gathered in. -/
abbrev gM : Memref sig .tc .vmem S32x16x512 .bf16 := Memref.whole cc0_scratch2

/-- The index of slot `r + 1` of an array of thirty-two. -/
theorem slot_inb (r : Fin 31) : ∀ a, (![r.val + 1] : Fin 1 → Nat) a + S1.size a ≤ S32.size a := by
  revert r; decide
/-- Slot `r + 1` lies within an array of thirty-two slots. -/
theorem slab_inb (r : Fin 31) : ∀ a, (![r.val + 1, 0, 0] : Fin 3 → Nat) a + S1x16x512.size a ≤ S32x16x512.size a := by
  revert r; decide
/-- Slot `r + 1` is made of whole machine words. -/
theorem slab_words : ∀ r : Fin 31,
    (Rect.unit (s := S32x16x512) ![r.val + 1, 0, 0] S1x16x512.size (slab_inb r)).WholeWords (EltTy.packing .bf16) := by
  decide +kernel

/-- The runtime's barrier semaphore. -/
abbrev barS : Sem sig := (SemArray.scalar (sig.barrier 0 rfl) : Sems sig S_).sem
/-- Slot `r + 1` of an array of semaphores. -/
abbrev semAt (A : DmaSems sig S32) (r : Fin 31) : DmaSem sig :=
  ((A.slice (Rect.unit (s := S32) ![r.val + 1] S1.size (slot_inb r))).squeeze S_ squeezes_S1_S_).sem
/-- The slot of the gather phase's arrivals that device `c`'s own copies signal. -/
abbrev semOwn (c : Dev nD) : DmaSem sig :=
  ((cc0_scratch6.slice (Rect.unit (s := S32) (k0_off4 c) S1.size (k0_off4_inb c))).squeeze S_ squeezes_S1_S_).sem
/-- The slot of the gather phase's arrivals that the device `r + 1` places before `c` signals. -/
abbrev semFrom (c : Dev nD) (r : Fin 31) : DmaSem sig :=
  ((cc0_scratch6.slice (Rect.unit (s := S32) (k0_off6 c (BitVec.ofNat 32 (1 + r.val))) S1.size (k0_off6_inb c r))).squeeze S_ squeezes_S1_S_).sem

/-- The sixteen rows of a device's partial product that belong to the device `r + 1` places after it. -/
abbrev rowsTo (c : Dev nD) (r : Fin 31) : Memref sig .tc .vmem S16x512 .bf16 :=
  sM.slice (Rect.unit (s := S512x512) (k0_off1 c (BitVec.ofNat 32 (1 + r.val))) S16x512.size (k0_off1_inb c r)) (fun _ => rfl)
/-- The first sixteen rows (the waits name them as their source). -/
abbrev rowsFirst : Memref sig .tc .vmem S16x512 .bf16 :=
  sM.slice (Rect.unit (s := S512x512) ![0, 0] S16x512.size inb_S512x512_S16x512_0_0) (fun _ => rfl)
/-- Slot `r + 1` of the buffer the parts arrive in. -/
abbrev partAt (r : Fin 31) : Memref sig .tc .vmem S16x512 .bf16 :=
  (vM.slice (Rect.unit (s := S32x16x512) ![r.val + 1, 0, 0] S1x16x512.size (slab_inb r)) (fun _ => rfl)).squeeze S16x512 squeezes_S1x16x512_S16x512
/-- Slot `c` of the gathering buffer. -/
abbrev chunkOwn (c : Dev nD) : Memref sig .tc .vmem S16x512 .bf16 :=
  (gM.slice (Rect.unit (s := S32x16x512) (k0_off5 c) S1x16x512.size (k0_off5_inb c)) (fun _ => rfl)).squeeze S16x512 squeezes_S1x16x512_S16x512
/-- The slot of the gathering buffer of the device `r + 1` places before `c`. -/
abbrev chunkFrom (c : Dev nD) (r : Fin 31) : Memref sig .tc .vmem S16x512 .bf16 :=
  (gM.slice (Rect.unit (s := S32x16x512) (k0_off7 c (BitVec.ofNat 32 (1 + r.val))) S1x16x512.size (k0_off7_inb c r)) (fun _ => rfl)).squeeze S16x512 squeezes_S1x16x512_S16x512

/-- The rows sent to another device are made of whole machine words. -/
theorem rowsTo_words (c : Dev nD) (r : Fin 31) : (rowsTo c r).view.WordExact :=
  (Memref.isWhole_whole cc0_scratch0).wordExact_slice rfl _ (k0_off1_wordsbf16 c r)
/-- The first sixteen rows are made of whole machine words. -/
theorem rowsFirst_words : rowsFirst.view.WordExact :=
  (Memref.isWhole_whole cc0_scratch0).wordExact_slice rfl _ wordsbf16_S512x512_S16x512_0_0
/-- A slot of the receiving buffer is made of whole machine words. -/
theorem partAt_words (r : Fin 31) : (partAt r).view.WordExact :=
  ((Memref.isWhole_whole cc0_scratch1).wordExact_slice rfl _ (slab_words r)).reshape _ _
/-- A device's own slot of the gathering buffer is made of whole machine words. -/
theorem chunkOwn_words (c : Dev nD) : (chunkOwn c).view.WordExact :=
  ((Memref.isWhole_whole cc0_scratch2).wordExact_slice rfl _ (k0_off5_wordsbf16 c)).reshape _ _
/-- Another device's slot of the gathering buffer is made of whole machine words. -/
theorem chunkFrom_words (c : Dev nD) (r : Fin 31) : (chunkFrom c r).view.WordExact :=
  ((Memref.isWhole_whole cc0_scratch2).wordExact_slice rfl _ (k0_off7_wordsbf16 c r)).reshape _ _

/-! ## The operations -/

abbrev P (F : FTy → Type) [FloatOps F] : Type 1 := Prog (TpuEff nD τ sig (Elt F) Λ₀ .tc) PUnit

/-- The `r`-th barrier signal. -/
def opBar (c : Dev nD) (r : Fin 31) : P F := semSignalWord (dstBar c r) barS 1#32
/-- The `r`-th copy of the scatter phase. -/
def opRs (c : Dev nD) (r : Fin 31) : P F :=
  Prog.lift (.enqueueDma (rowsTo c r) (.remote (Dev.tc (dstRs c r)) (partAt r) (.dma (semAt cc0_scratch3 r))) (.dma (semAt cc0_scratch4 r))
    (rowsTo_words c r) (partAt_words r) ⟨⟨rfl, Or.inl rfl⟩, trivial⟩)
/-- The `r`-th wait for a part of the own chunk. -/
def opRsWait (r : Fin 31) : P F :=
  Prog.lift (.waitDma2 (semAt cc0_scratch4 r) rowsFirst (partAt r) rowsFirst_words (partAt_words r))
/-- The `r`-th copy of the gather phase. -/
def opAg (c : Dev nD) (r : Fin 31) : P F :=
  Prog.lift (.enqueueDma (chunkOwn c) (.remote (Dev.tc (dstAg c r)) (chunkOwn c) (.dma (semAt cc0_scratch5 r))) (.dma (semOwn c))
    (chunkOwn_words c) (chunkOwn_words c) ⟨⟨rfl, Or.inl rfl⟩, trivial⟩)
/-- The `r`-th wait for a summed chunk. -/
def opAgWait (c : Dev nD) (r : Fin 31) : P F :=
  Prog.lift (.waitDma2 (semFrom c r) rowsFirst (chunkFrom c r) rowsFirst_words (chunkFrom_words c r))
/-- The `r`-th wait for a copy of the scatter phase to have left. -/
def opRsLeft (c : Dev nD) (r : Fin 31) : P F :=
  Prog.lift (.waitDma2 (semAt cc0_scratch3 r) (partAt r) (rowsTo c r) (partAt_words r) (rowsTo_words c r))
/-- The `r`-th wait for a copy of the gather phase to have left. -/
def opAgLeft (c : Dev nD) (r : Fin 31) : P F :=
  Prog.lift (.waitDma2 (semAt cc0_scratch5 r) (chunkOwn c) (chunkOwn c) (chunkOwn_words c) (chunkOwn_words c))

/-- The operations at the places of a list, in order. -/
def each : List (Fin 31) → (Fin 31 → P F) → P F
  | [], _ => pure ⟨⟩
  | r :: rs, f => f r >>= fun _ => each rs f

/-- The thirty-one places. -/
def places : List (Fin 31) :=
  [0, 1, 2, 3, 4, 5, 6, 7, 8, 9, 10, 11, 12, 13, 14, 15, 16, 17, 18, 19, 20, 21, 22, 23, 24, 25, 26, 27, 28, 29, 30]

abbrev rAll : Rect S512x512 := Rect.unit (s := S512x512) ![0, 0] S512x512.size inb_S512x512_S512x512_0_0
abbrev rW1 : Rect S512x1024 := Rect.unit (s := S512x1024) ![0, 0] S512x1024.size inb_S512x1024_S512x1024_0_0
abbrev rW2 : Rect S1024x512 := Rect.unit (s := S1024x512) ![0, 0] S1024x512.size inb_S1024x512_S1024x512_0_0
/-- All thirty-two slots. -/
abbrev rSlots : Rect S32x16x512 := Rect.unit (s := S32x16x512) ![0, 0, 0] S32x16x512.size inb_S32x16x512_S32x16x512_0_0_0
/-- Slot 0. -/
abbrev rSlot0 : Rect S32x16x512 := Rect.unit (s := S32x16x512) ![0, 0, 0] S1x16x512.size inb_S32x16x512_S1x16x512_0_0_0
/-- The device's own sixteen rows. -/
abbrev rRows (c : Dev nD) : Rect S512x512 := Rect.unit (s := S512x512) (k0_off2 c) S16x512.size (k0_off2_inb c)
/-- The device's own slot. -/
abbrev rSlot (c : Dev nD) : Rect S32x16x512 := Rect.unit (s := S32x16x512) (k0_off3 c) S1x16x512.size (k0_off3_inb c)

/-- The body: signal everybody and wait for everybody; the partial product into the sending buffer; its chunks to
    their devices and the own one kept; the parts awaited and summed; the sum to everybody; the sums awaited and
    stored; the copies awaited. -/
def loops : P F := do
  let c : Dev nD ← Prog.lift .deviceId
  each places (opBar c)
  semWaitWord barS 31#32
  let x : Vec F S512x512 .f32 ← Prog.lift (.load xM rAll.toLoadRect (View.loadsAt_vmem h_S512x512))
  let w1 : Vec F S512x1024 .f32 ← Prog.lift (.load w1M rW1.toLoadRect (View.loadsAt_vmem h_S512x1024))
  let w2 : Vec F S1024x512 .f32 ← Prog.lift (.load w2M rW2.toLoadRect (View.loadsAt_vmem h_S1024x512))
  let _ : Vec F S512x512 .bf16 ← Prog.lift (.load sM rAll.toLoadRect (View.loadsAt_vmem h_S512x512))
  Prog.lift (.store sM rAll (k0_pay2 (k0_pay1 x w1 w2)) Finset.univ (View.stores_vmem h_S512x512 ((Memref.isWhole_whole cc0_scratch0).storeExact_slice rfl _ packedbf16_S512x512_S512x512_0_0) (fun _ => rfl)) (.inl rfl))
  each places (opRs c)
  let own : Vec F S16x512 .bf16 ← Prog.lift (.load sM (rRows c).toLoadRect (View.loadsAt_vmem h_S16x512))
  let _ : Vec F S1x16x512 .bf16 ← Prog.lift (.load vM rSlot0.toLoadRect (View.loadsAt_vmem h_S1x16x512))
  Prog.lift (.store vM rSlot0 (k0_pay3 own) Finset.univ (View.stores_vmem h_S1x16x512 ((Memref.isWhole_whole cc0_scratch1).storeExact_slice rfl _ packedbf16_S32x16x512_S1x16x512_0_0_0) (fun _ => rfl)) (.inl rfl))
  each places opRsWait
  let parts : Vec F S32x16x512 .bf16 ← Prog.lift (.load vM rSlots.toLoadRect (View.loadsAt_vmem h_S32x16x512))
  let _ : Vec F S1x16x512 .bf16 ← Prog.lift (.load gM (rSlot c).toLoadRect (View.loadsAt_vmem h_S1x16x512))
  Prog.lift (.store gM (rSlot c) (k0_pay4 parts) Finset.univ (View.stores_vmem h_S1x16x512 ((Memref.isWhole_whole cc0_scratch2).storeExact_slice rfl _ (k0_off3_packedbf16 c)) (fun _ => rfl)) (.inl rfl))
  each places (opAg c)
  each places (opAgWait c)
  let sums : Vec F S32x16x512 .bf16 ← Prog.lift (.load gM rSlots.toLoadRect (View.loadsAt_vmem h_S32x16x512))
  let _ : Vec F S512x512 .f32 ← Prog.lift (.load oM rAll.toLoadRect (View.loadsAt_vmem h_S512x512))
  Prog.lift (.store oM rAll (k0_pay5 sums) Finset.univ (View.stores_vmem_bits_univ h_S512x512 rfl) (.inl rfl))
  each places (opRsLeft c)
  each places (opAgLeft c)

set_option maxRecDepth 65536 in
set_option maxHeartbeats 4000000 in
/-- The printed body, at the launch's buffers, is the body by stretches. -/
theorem body_eq_loops : cc0_body (F := F) xM (Memref.isWhole_whole _) w1M (Memref.isWhole_whole _) w2M (Memref.isWhole_whole _)
    oM (Memref.isWhole_whole _) sM (Memref.isWhole_whole _) vM (Memref.isWhole_whole _) gM (Memref.isWhole_whole _)
    cc0_scratch3 cc0_scratch4 cc0_scratch5 cc0_scratch6 = loops := by
  rw [cc0_body_eq_skeleton]
  rfl

end Cert.Exchange

end
-- ==== Proof.Mesh.lean ====
/- The arithmetic of the mesh and of the printed words: which device lies a distance after or before another, at which
   offset each slice of a buffer starts, and which semaphore each slice of an array of semaphores is. -/
module

public import proofs.«01_k».proof.Proof.Loops
public import Idealize.ShloMosaic.Lib.Tactic
public import Idealize.ShloMosaic.Lib.ValueLayout

@[expose] public section

noncomputable section

namespace Cert.Exchange

open Cert.KernelIdeal Cert.KernelIdeal.Gen
open Idealize.ShloMosaic Idealize.ShloMosaic.TcCoe
open Idealize.SL Idealize.SL.Sem
open Idealize.ShloMosaic.ValueIdx (ix1 ix2 ix3)

variable {F : FTy → Type} [FloatOps F]

/-! ## Around the mesh -/

/-- The device `j` places before `c`. -/
def back (c j : Dev nD) : Dev nD := ⟨(c.val + (32 - j.val)) % 32, Nat.mod_lt _ (by decide)⟩

/-- Going back by the `r`-th place is going back `r + 1` places. -/
theorem bwd_eq_back : ∀ (c : Dev nD) (r : Fin 31), bwd c r = back c r.succ := by decide +kernel
/-- Going `r + 1` places forward and as many back returns to the start. -/
theorem back_fwd : ∀ (c : Dev nD) (r : Fin 31), back (fwd c r) r.succ = c := by decide +kernel
/-- Forward and then backward by the same place returns to the start. -/
theorem bwd_fwd : ∀ (c : Dev nD) (r : Fin 31), bwd (fwd c r) r = c := by decide +kernel
/-- Backward and then forward by the same place returns to the start. -/
theorem fwd_bwd : ∀ (c : Dev nD) (r : Fin 31), fwd (bwd c r) r = c := by decide +kernel
/-- Backward by the mirrored place is forward by the place. -/
theorem bwd_rev : ∀ (c : Dev nD) (r : Fin 31), bwd c (Fin.rev r) = fwd c r := by decide +kernel
/-- Forward by the mirrored place is backward by the place. -/
theorem fwd_rev : ∀ (c : Dev nD) (r : Fin 31), fwd c (Fin.rev r) = bwd c r := by decide +kernel
/-- Going back no places stays. -/
theorem back_zero : ∀ c : Dev nD, back c 0 = c := by decide +kernel
/-- Going back from `c` twice in this way gives the distance again. -/
theorem back_back : ∀ c j : Dev nD, back c (back c j) = j := by decide +kernel
/-- No place forward leads to the device itself. -/
theorem fwd_ne : ∀ (c : Dev nD) (r : Fin 31), fwd c r ≠ c := by decide +kernel
/-- No place backward leads to the device itself. -/
theorem bwd_ne : ∀ (c : Dev nD) (r : Fin 31), bwd c r ≠ c := by decide +kernel
/-- Different places forward lead to different devices. -/
theorem fwd_inj : ∀ (c : Dev nD), Function.Injective (fwd c) := by decide +kernel
/-- Different places backward lead to different devices. -/
theorem bwd_inj : ∀ (c : Dev nD), Function.Injective (bwd c) := by decide +kernel
/-- Every other device is some place forward. -/
theorem fwd_onto : ∀ (c j : Dev nD), j ≠ c → ∃ r, fwd c r = j := by decide +kernel
/-- Every other device is some place backward. -/
theorem bwd_onto : ∀ (c j : Dev nD), j ≠ c → ∃ r, bwd c r = j := by decide +kernel

/-- For each distance, the devices and the devices that far after them. -/
def turn (r : Fin 31) : Dev nD ≃ Dev nD := ⟨fun c => fwd c r, fun c => bwd c r, fun c => bwd_fwd c r, fun c => fwd_bwd c r⟩

/-! ## Offsets -/

/-- A scatter copy reads at the first row of its receiver's sixteen. -/
theorem off1_eq : ∀ (c : Dev nD) (r : Fin 31), k0_off1 c (BitVec.ofNat 32 (1 + r.val)) = ![(fwd c r).val * 16, 0] := by decide +kernel
/-- The device reads its own part at the first row of its own sixteen. -/
theorem off2_eq : ∀ c : Dev nD, k0_off2 c = ![c.val * 16, 0] := by decide +kernel
/-- The device stores its sum at its own slot. -/
theorem off3_eq : ∀ c : Dev nD, k0_off3 c = ![c.val, 0, 0] := by decide +kernel
/-- The gather copies start from the device's own slot. -/
theorem off5_eq : ∀ c : Dev nD, k0_off5 c = ![c.val, 0, 0] := by decide +kernel
/-- The wait of the gather phase names the slot of the device `r + 1` places before. -/
theorem off7_eq : ∀ (c : Dev nD) (r : Fin 31), k0_off7 c (BitVec.ofNat 32 (1 + r.val)) = ![(bwd c r).val, 0, 0] := by decide +kernel

/-! ## Semaphores -/

/-- Slot `j` of the `a`-th array of thirty-two semaphores. -/
def slotSem (a : Fin 4) (j : Dev nD) : DmaSem sig := ⟨4 + 32 * a.val + j.val, by
  have h1 : a.val < 4 := a.isLt
  have h2 : j.val < 32 := j.isLt
  show _ < 132
  omega⟩

/-- Semaphores of different arrays or of different slots are different. -/
theorem slotSem_inj {a a' : Fin 4} {j j' : Dev nD} (h : slotSem a j = slotSem a' j') : a = a' ∧ j = j' := by
  have h1 : 4 + 32 * a.val + j.val = 4 + 32 * a'.val + j'.val := congrArg Fin.val h
  have h2 : j.val < 32 := j.isLt
  have h3 : j'.val < 32 := j'.isLt
  exact ⟨Fin.ext (by omega), Fin.ext (by omega)⟩

/-- One semaphore cut out of an array is the one at its position. -/
theorem cut_sem (A : DmaSems sig S32) (j : Dev nD) {off : Fin 1 → Nat} (h : off = ![j.val]) (inb) :
    ((A.slice (Rect.unit (s := S32) off S1.size inb)).squeeze S_ squeezes_S1_S_).sem = A.ix (ix1 j) := by
  subst h
  show A.ix _ = A.ix _
  refine congrArg A.ix (funext fun a => Fin.ext ?_)
  match a with
  | 0 =>
    generalize hz : (Shape.reshapeEquiv (s := S1) squeezes_S1_S_.numel_eq fun i => i.elim0) = z
    have hz0 : (z 0).val < 1 := (z 0).isLt
    show j.val + 1 * (z 0).val = j.val
    omega

/-- The semaphores of an array laid consecutively are numbered by position. -/
theorem laid_at (base : Nat) (h : base + S32.numel ≤ 132) (j : Dev nD) :
    (((SemArray.consecutive base S32 h : DmaSems sig S32).ix (ix1 j)) : Fin 132).val = base + j.val := by
  show base + (S32.rowMajor (ix1 j)).val = base + j.val
  exact congrArg (base + ·) (Shape.rowMajor_val_one (d := ![32]) (ix1 j))

/-- The gather copies signal the semaphore at the device's own slot. -/
theorem off4_eq : ∀ c : Dev nD, k0_off4 c = ![c.val] := by decide +kernel
/-- The wait of the gather phase names the semaphore at the sender's slot. -/
theorem off6_eq : ∀ (c : Dev nD) (r : Fin 31), k0_off6 c (BitVec.ofNat 32 (1 + r.val)) = ![(bwd c r).val] := by decide +kernel

/-- The scatter copies' departures are counted in array 0. -/
theorem semAt3 (r : Fin 31) : semAt cc0_scratch3 r = slotSem 0 r.succ :=
  (cut_sem cc0_scratch3 r.succ rfl _).trans (Fin.ext (laid_at 4 _ _))
/-- The scatter copies' arrivals are counted in array 1. -/
theorem semAt4 (r : Fin 31) : semAt cc0_scratch4 r = slotSem 1 r.succ :=
  (cut_sem cc0_scratch4 r.succ rfl _).trans (Fin.ext (laid_at 36 _ _))
/-- The gather copies' departures are counted in array 2. -/
theorem semAt5 (r : Fin 31) : semAt cc0_scratch5 r = slotSem 2 r.succ :=
  (cut_sem cc0_scratch5 r.succ rfl _).trans (Fin.ext (laid_at 68 _ _))
/-- A device's gather copies signal their arrival in array 3 at the device's slot. -/
theorem semOwn_eq (c : Dev nD) : semOwn c = slotSem 3 c :=
  (cut_sem cc0_scratch6 c (off4_eq c) _).trans (Fin.ext (laid_at 100 _ _))
/-- The arrival of another device's sum is awaited in array 3 at that device's slot. -/
theorem semFrom_eq (c : Dev nD) (r : Fin 31) : semFrom c r = slotSem 3 (bwd c r) :=
  (cut_sem cc0_scratch6 (bwd c r) (off6_eq c r) _).trans (Fin.ext (laid_at 100 _ _))

end Cert.Exchange

end
-- ==== Proof.Chunks.lean ====
/- The pieces of the three buffers the devices exchange: the thirty-two chunks of sixteen rows of the sending buffer
   and the thirty-two slots of the two arrival buffers, as sets of indices, and what is read and written through the
   views the copies, the loads and the stores name. -/
module

public import proofs.«01_k».proof.Proof.Mesh

@[expose] public section

noncomputable section

namespace Cert.Exchange

open Cert.KernelIdeal Cert.KernelIdeal.Gen
open Idealize.ShloMosaic Idealize.ShloMosaic.TcCoe
open Idealize.SL Idealize.SL.Sem
open Idealize.ShloMosaic.ValueIdx (ix1 ix2 ix3)

variable {F : FTy → Type} [FloatOps F]

/-! ## Sets -/

/-- The indices of the sixteen rows of chunk `j`. -/
def rowSet (j : Dev nD) : Finset S512x512.Idx := Finset.univ.filter fun i => (i 0).val / 16 = j.val
/-- The indices of slot `j`. -/
def slotSet (j : Dev nD) : Finset S32x16x512.Idx := Finset.univ.filter fun i => (i 0).val = j.val

/-- An entry is in the rows of device `j` exactly when its row divided by sixteen is `j`. -/
theorem mem_rowSet {j : Dev nD} {i : S512x512.Idx} : i ∈ rowSet j ↔ (i 0).val / 16 = j.val := by
  unfold rowSet; rw [Finset.mem_filter]; exact and_iff_right (Finset.mem_univ _)
/-- An entry is in slot `j` exactly when its first coordinate is `j`. -/
theorem mem_slotSet {j : Dev nD} {i : S32x16x512.Idx} : i ∈ slotSet j ↔ (i 0).val = j.val := by
  unfold slotSet; rw [Finset.mem_filter]; exact and_iff_right (Finset.mem_univ _)

/-- The rows of the thirty-two devices make up the whole array. -/
theorem rowSet_cover : Finset.univ.biUnion rowSet = (Finset.univ : Finset S512x512.Idx) := by
  ext i
  simp only [Finset.mem_biUnion, Finset.mem_univ, true_and, iff_true]
  have h : (i 0).val < 512 := (i 0).isLt
  exact ⟨⟨(i 0).val / 16, by show _ < 32; omega⟩, mem_rowSet.mpr rfl⟩
/-- The thirty-two slots make up the whole array. -/
theorem slotSet_cover : Finset.univ.biUnion slotSet = (Finset.univ : Finset S32x16x512.Idx) := by
  ext i
  simp only [Finset.mem_biUnion, Finset.mem_univ, true_and, iff_true]
  have h : (i 0).val < 32 := (i 0).isLt
  exact ⟨⟨(i 0).val, h⟩, mem_slotSet.mpr rfl⟩
/-- The rows of different devices do not meet. -/
theorem rowSet_disj : ((Finset.univ : Finset (Dev nD)) : Set (Dev nD)).PairwiseDisjoint rowSet := by
  intro a _ b _ hab
  rw [Function.onFun, Finset.disjoint_left]
  intro i hi hi'
  exact hab (Fin.ext ((mem_rowSet.mp hi).symm.trans (mem_rowSet.mp hi')))
/-- Different slots do not meet. -/
theorem slotSet_disj : ((Finset.univ : Finset (Dev nD)) : Set (Dev nD)).PairwiseDisjoint slotSet := by
  intro a _ b _ hab
  rw [Function.onFun, Finset.disjoint_left]
  intro i hi hi'
  exact hab (Fin.ext ((mem_slotSet.mp hi).symm.trans (mem_slotSet.mp hi')))

/-- Sixteen rows from row `16 j` are chunk `j`. -/
theorem rows_set {off : Fin 2 → Nat} (j : Dev nD) (h : off = ![j.val * 16, 0]) (inb) :
    (Rect.unit (s := S512x512) off S16x512.size inb).set = rowSet j := by
  subst h
  ext i
  rw [Rect.mem_set_unit, mem_rowSet, Fin.forall_fin_two]
  have h1 : (i 1).val < 512 := (i 1).isLt
  show (j.val * 16 ≤ (i 0).val ∧ (i 0).val < j.val * 16 + 16) ∧ (0 ≤ (i 1).val ∧ (i 1).val < 0 + 512) ↔ _
  omega
/-- One slab from slab `j` is slot `j`. -/
theorem slab_set {off : Fin 3 → Nat} (j : Dev nD) (h : off = ![j.val, 0, 0]) (inb) :
    (Rect.unit (s := S32x16x512) off S1x16x512.size inb).set = slotSet j := by
  subst h
  ext i
  rw [Rect.mem_set_unit, mem_slotSet]
  have h1 : (i 1).val < 16 := (i 1).isLt
  have h2 : (i 2).val < 512 := (i 2).isLt
  constructor
  · intro h
    have h0 : j.val ≤ (i 0).val ∧ (i 0).val < j.val + 1 := h 0
    omega
  · intro h a
    match a with
    | 0 => show j.val ≤ (i 0).val ∧ (i 0).val < j.val + 1; omega
    | 1 => show 0 ≤ (i 1).val ∧ (i 1).val < 0 + 16; omega
    | 2 => show 0 ≤ (i 2).val ∧ (i 2).val < 0 + 512; omega

/-- The rows a scatter copy reads are those of the device it is sent to. -/
theorem rowsTo_set (c : Dev nD) (r : Fin 31) : (rowsTo c r).view.set = rowSet (fwd c r) :=
  (View.set_slice_whole _ _).trans (rows_set _ (off1_eq c r) _)
/-- The place a scatter copy writes is one slot of the receiving buffer. -/
theorem partAt_set (r : Fin 31) : (partAt r).view.set = slotSet r.succ :=
  (View.set_reshape _ _).trans ((View.set_slice_whole _ _).trans (slab_set r.succ rfl _))
/-- The place a device's gather copies read and write is its own slot. -/
theorem chunkOwn_set (c : Dev nD) : (chunkOwn c).view.set = slotSet c :=
  (View.set_reshape _ _).trans ((View.set_slice_whole _ _).trans (slab_set c (off5_eq c) _))
/-- The place awaited from the device `r + 1` places before is that device's slot. -/
theorem chunkFrom_set (c : Dev nD) (r : Fin 31) : (chunkFrom c r).view.set = slotSet (bwd c r) :=
  (View.set_reshape _ _).trans ((View.set_slice_whole _ _).trans (slab_set (bwd c r) (off7_eq c r) _))

/-! ## Indices under the views -/

/-- Row `y` of chunk `j`. -/
def rowIdx (j : Dev nD) (y : Fin 16) (k : Fin 512) : S512x512.Idx :=
  ix2 ⟨j.val * 16 + y.val, by have h1 : j.val < 32 := j.isLt; have h2 := y.isLt; omega⟩ k

/-- Where an entry of a block of sixteen rows lies in the whole array. -/
theorem rows_idx {off : Fin 2 → Nat} (j : Dev nD) (h : off = ![j.val * 16, 0]) (inb) (x : S16x512.Idx) :
    (Rect.unit (s := S512x512) off S16x512.size inb).idx x = rowIdx j (x 0) (x 1) := by
  subst h
  funext a
  apply Fin.ext
  match a with
  | 0 => show j.val * 16 + 1 * (x 0).val = j.val * 16 + (x 0).val; omega
  | 1 => show 0 + 1 * (x 1).val = (x 1).val; omega
/-- Where an entry of one slot lies in an array of slots. -/
theorem slab_idx {off : Fin 3 → Nat} (j : Dev nD) (h : off = ![j.val, 0, 0]) (inb) (x : S1x16x512.Idx) :
    (Rect.unit (s := S32x16x512) off S1x16x512.size inb).idx x = (ix3 j (x 1) (x 2) : S32x16x512.Idx) := by
  subst h
  have h0 : (x 0).val < 1 := (x 0).isLt
  funext a
  apply Fin.ext
  match a with
  | 0 => show j.val + 1 * (x 0).val = j.val; omega
  | 1 => show 0 + 1 * (x 1).val = (x 1).val; omega
  | 2 => show 0 + 1 * (x 2).val = (x 2).val; omega

/-- Dropping the unit dimension keeps the other two coordinates. -/
theorem squeeze_idx (x : S16x512.Idx) : Shape.reshapeEquiv (s := S1x16x512) squeezes_S1x16x512_S16x512.numel_eq x = (ix3 0 (x 0) (x 1) : S1x16x512.Idx) := by
  refine (Shape.reshapeEquiv_cons_one (d := ![16, 512]) _ x).trans ?_
  funext a
  match a with
  | 0 => rfl
  | 1 => rfl
  | 2 => rfl

/-- Where an entry of a chunk to be sent lies in the sending buffer. -/
theorem rowsTo_emb (c : Dev nD) (r : Fin 31) (x : S16x512.Idx) : (rowsTo c r).view.emb x = rowIdx (fwd c r) (x 0) (x 1) :=
  rows_idx _ (off1_eq c r) _ x
/-- Where an entry of an arriving part lies in the receiving buffer. -/
theorem partAt_emb (r : Fin 31) (x : S16x512.Idx) : (partAt r).view.emb x = (ix3 r.succ (x 0) (x 1) : S32x16x512.Idx) := by
  show (Rect.unit (s := S32x16x512) ![r.val + 1, 0, 0] S1x16x512.size (slab_inb r)).idx (Shape.reshapeEquiv (s := S1x16x512) squeezes_S1x16x512_S16x512.numel_eq x) = _
  exact (slab_idx r.succ rfl _ _).trans (by rw [squeeze_idx])
/-- Where an entry of a device's summed chunk lies in the gathering buffer. -/
theorem chunkOwn_emb (c : Dev nD) (x : S16x512.Idx) : (chunkOwn c).view.emb x = (ix3 c (x 0) (x 1) : S32x16x512.Idx) := by
  show (Rect.unit (s := S32x16x512) (k0_off5 c) S1x16x512.size (k0_off5_inb c)).idx (Shape.reshapeEquiv (s := S1x16x512) squeezes_S1x16x512_S16x512.numel_eq x) = _
  exact (slab_idx c (off5_eq c) _ _).trans (by rw [squeeze_idx])

/-! ## What lands -/

/-- The parts of chunk `c` as they lie in device `c`'s arrival buffer, if device `p` sends `st p`. -/
def partsOf {V : Type} (st : Dev nD → S512x512.Idx → V) (c : Dev nD) : S32x16x512.Idx → V :=
  fun i => st (back c (i 0)) (rowIdx c (i 1) (i 2))

/-- The copy of the scatter phase from device `c` lands as a part of the chunk of the device it goes to. -/
theorem part_lands (st : Dev nD → (cc0_scratch0 : Ref sig .tc).ty.Contents (Elt F)) (c : Dev nD) (r : Fin 31) (fd : (cc0_scratch1 : Ref sig .tc).ty.Contents (Elt F)) :
    ∀ i ∈ slotSet r.succ, (partAt r).view.write (Elt F) fd ((rowsTo c r).view.read (Elt F) (st c)) Finset.univ i
      = (partsOf st (fwd c r) : (cc0_scratch1 : Ref sig .tc).ty.Contents (Elt F)) i := by
  intro i hi
  rw [← partAt_set] at hi
  obtain ⟨x, -, rfl⟩ := Finset.mem_map.mp hi
  rw [View.write_emb_of_mem _ _ (Finset.mem_univ x), View.read_apply, rowsTo_emb, partAt_emb]
  show st c (rowIdx (fwd c r) (x 0) (x 1)) = st (back (fwd c r) r.succ) (rowIdx (fwd c r) (x 0) (x 1))
  rw [back_fwd]

/-- A copy of the gather phase lands as it lay. -/
theorem chunk_lands (c : Dev nD) (g fd : (cc0_scratch2 : Ref sig .tc).ty.Contents (Elt F)) :
    ∀ i ∈ slotSet c, (chunkOwn c).view.write (Elt F) fd ((chunkOwn c).view.read (Elt F) g) Finset.univ i = g i := by
  intro i hi
  rw [← chunkOwn_set] at hi
  obtain ⟨x, -, rfl⟩ := Finset.mem_map.mp hi
  rw [View.write_emb_of_mem _ _ (Finset.mem_univ x), View.read_apply]
  rfl

/-! ## Loads and stores -/

/-- The offset of two zeros is zero in each dimension. -/
theorem zero2 : (![0, 0] : Fin 2 → Nat) = fun _ => 0 := funext fun a => by fin_cases a <;> rfl
/-- The offset of three zeros is zero in each dimension. -/
theorem zero3 : (![0, 0, 0] : Fin 3 → Nat) = fun _ => 0 := funext fun a => by fin_cases a <;> rfl

/-- What a device reads as its own sixteen rows. -/
theorem own_rows_read (c : Dev nD) (f : (cc0_scratch0 : Ref sig .tc).ty.Contents (Elt F)) (x : S16x512.Idx) :
    sM.view.readAt (Elt F) (rRows c).toLoadRect f x = f (rowIdx c (x 0) (x 1)) := by
  rw [View.readAt_apply, View.read_apply]
  exact congrArg f (rows_idx c (off2_eq c) _ x)

/-- Storing the own sixteen rows in slot 0 makes it the own part of the own chunk. -/
theorem own_part_stored (st : Dev nD → (cc0_scratch0 : Ref sig .tc).ty.Contents (Elt F)) (c : Dev nD) (f : (cc0_scratch1 : Ref sig .tc).ty.Contents (Elt F)) :
    ∀ i ∈ slotSet 0, (vM.access rSlot0).write (Elt F) f (k0_pay3 (sM.view.readAt (Elt F) (rRows c).toLoadRect (st c))) Finset.univ i
      = (partsOf st c : (cc0_scratch1 : Ref sig .tc).ty.Contents (Elt F)) i := by
  intro i hi
  obtain ⟨x, rfl⟩ : ∃ x : S1x16x512.Idx, (vM.access rSlot0).emb x = i := by
    rw [← slab_set (0 : Dev nD) (off := ![0, 0, 0]) rfl inb_S32x16x512_S1x16x512_0_0_0] at hi
    exact LoadRect.exists_idx_of_mem _ hi
  rw [View.write_emb_of_mem _ _ (Finset.mem_univ x)]
  have hx : (vM.access rSlot0).emb x = (ix3 (0 : Dev nD) (x 1) (x 2) : S32x16x512.Idx) := slab_idx (0 : Dev nD) rfl _ x
  rw [hx]
  show k0_pay3 (sM.view.readAt (Elt F) (rRows c).toLoadRect (st c)) x = st (back c 0) (rowIdx c (x 1) (x 2))
  rw [back_zero, ValueIdx.eq_ix3 x]
  have h := ValueIdx.shapeCast_ab_1ab_apply (a := 16) (b := 512) (sM.view.readAt (Elt F) (rRows c).toLoadRect (st c)) shapeCasts_S16x512_S1x16x512 (x 0) (x 1) (x 2)
  exact h.trans (own_rows_read c (st c) _)

end Cert.Exchange

end
-- ==== Proof.Protocol.lean ====
/- The protocol the devices keep. Each device holds 129 counters: the runtime's barrier and four arrays of thirty-two
   (array 0: its copies of the scatter phase have left; 1: parts of its chunk have arrived; 2: its copies of the
   gather phase have left; 3: summed chunks have arrived). Every counter serves one round. A barrier counter takes
   one unit from each other device `p`, and with it the right to write the two pieces of `p`'s arrival buffers
   that only this device writes. A counter of an array takes the credit of one block of sixteen rows, with the
   piece the copy read or wrote. -/
module

public import proofs.«01_k».proof.Proof.Chunks
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

/-- A device's counters: the barrier, and slot `j` of array `a`. -/
abbrev CK : Type := Unit ⊕ (Fin 4 × Dev nD)

/-- The semaphore of a counter. -/
def csem : CK → SemLoc sig
  | .inl _ => .reg barS
  | .inr p => .dma (slotSem p.1 p.2)

/-- Different counters of a device are different semaphores. -/
theorem csem_inj : Function.Injective csem := by
  rintro (⟨⟩ | ⟨a, j⟩) (⟨⟩ | ⟨a', j'⟩) h
  · rfl
  · cases h
  · cases h
  · obtain ⟨h1, h2⟩ := slotSem_inj (SemLoc.dma.inj h)
    exact congrArg Sum.inr (Prod.ext h1 h2)

open Classical in
/-- Which counter a semaphore is, if any. -/
def kindOf (sm : SemLoc sig) : Option CK := if h : ∃ k, csem k = sm then some h.choose else none

/-- The semaphore of a counter is recognised as that counter. -/
theorem kindOf_csem (k : CK) : kindOf (csem k) = some k := by
  have h : ∃ k', csem k' = csem k := ⟨k, rfl⟩
  unfold kindOf
  rw [dif_pos h]
  exact congrArg some (csem_inj h.choose_spec)

/-- The counter `k` of device `c`. -/
abbrev cellAt (c : Dev nD) (k : CK) : GSem nD τ sig := ((c : Thread nD τ), csem k)
abbrev barC (c : Dev nD) : GSem nD τ sig := cellAt c (.inl ())
abbrev arrC (c : Dev nD) (a : Fin 4) (j : Dev nD) : GSem nD τ sig := cellAt c (.inr (a, j))

/-- A counter's place determines its device and which counter it is. -/
theorem cellAt_inj {c c' : Dev nD} {k k' : CK} (h : cellAt c k = cellAt c' k') : c = c' ∧ k = k' :=
  ⟨congrArg (fun g : GSem nD τ sig => g.1.1) h, csem_inj (congrArg Prod.snd h)⟩

/-- The credit of one copied block. -/
abbrev N : ℕ := (partAt 0).view.dmaCredit
/-- A copy of a chunk counts for at least one unit. -/
theorem N_pos : 0 < N := View.dmaCredit_pos _ (by decide)

/-! ## The pieces and their contents -/

variable (st : Dev nD → (cc0_scratch0 : Ref sig .tc).ty.Contents (Elt F))

/-- What device `c` sums its parts to, if device `p` sends `st p`. -/
def summed (c : Dev nD) : FVec F S1x16x512 .bf16 := k0_pay4 (partsOf st c)
/-- The thirty-two sums in one buffer. -/
def gathered : (cc0_scratch2 : Ref sig .tc).ty.Contents (Elt F) :=
  fun i => (summed st (i 0) : FVec F S1x16x512 .bf16) (ix3 0 (i 1) (i 2))

/-- Chunk `j` of device `c`'s sending buffer. -/
def sPts (c j : Dev nD) (f : (cc0_scratch0 : Ref sig .tc).ty.Contents (Elt F)) : sProp 𝕄 :=
  ((c : Thread nD τ).loc cc0_scratch0) ↦[rowSet j]{fullShare} f
/-- Slot `j` of the buffer device `c` receives its parts in. -/
def vPts (c j : Dev nD) (f : (cc0_scratch1 : Ref sig .tc).ty.Contents (Elt F)) : sProp 𝕄 :=
  ((c : Thread nD τ).loc cc0_scratch1) ↦[slotSet j]{fullShare} f
/-- Slot `j` of the buffer device `c` gathers the sums in, at share `q`. -/
def gPts (c j : Dev nD) (q : PosShare TreeShare) (f : (cc0_scratch2 : Ref sig .tc).ty.Contents (Elt F)) : sProp 𝕄 :=
  ((c : Thread nD τ).loc cc0_scratch2) ↦[slotSet j]{q} f

omit [FloatOps F] in
instance sPts_storable (c j : Dev nD) (f) : BI.Storable (upEmb : UEmb _ 𝕄) (sPts (F := F) c j f) := by unfold sPts; infer_instance
omit [FloatOps F] in
instance vPts_storable (c j : Dev nD) (f) : BI.Storable (upEmb : UEmb _ 𝕄) (vPts (F := F) c j f) := by unfold vPts; infer_instance
omit [FloatOps F] in
instance gPts_storable (c j : Dev nD) (q) (f) : BI.Storable (upEmb : UEmb _ 𝕄) (gPts (F := F) c j q f) := by unfold gPts; infer_instance

/-! ## The schedule -/

/-- The device `j` places after `c`. -/
def ahead (c j : Dev nD) : Dev nD := ⟨(c.val + j.val) % 32, Nat.mod_lt _ (by decide)⟩
/-- Slot `r + 1` belongs to the device `r + 1` places after. -/
theorem ahead_succ (c : Dev nD) (r : Fin 31) : ahead c r.succ = fwd c r := rfl

/-- With the `r`-th unit of its barrier, `c` gets from the device that paid it the slots only `c` writes there. -/
def barPay (c : Dev nD) (r : Fin 31) : sProp 𝕄 :=
  iprop((∃ f, vPts (F := F) (bwd c r) (Fin.rev r).succ f) ∗ (∃ f, gPts (F := F) (bwd c r) c fullShare f))

/-- The share of its own summed chunk that a copy of the gather phase reads at. -/
abbrev lent (j : Dev nD) : PosShare TreeShare := Transfers.shareTokN fullShare (j.val - 1)

/-- What comes with a contribution to counter `k` of device `c`. -/
def payOf (c : Dev nD) : CK → Fin 31 → sProp 𝕄
  | .inl _, r => barPay c r
  | .inr (0, j), _ => sPts c (ahead c j) (st c)
  | .inr (1, j), _ => vPts c j (partsOf st c)
  | .inr (2, j), _ => gPts c c (lent j) (gathered st)
  | .inr (3, j), _ => gPts c j fullShare (gathered st)

/-- Slot `j` of array `a` of device `c` is used: slot 0 of the first three arrays and the device's own slot of the
    last are not. -/
def Used (c : Dev nD) (a : Fin 4) (j : Dev nD) : Prop := if a = 3 then j ≠ c else j ≠ 0
instance (c : Dev nD) (a : Fin 4) (j : Dev nD) : Decidable (Used c a j) := by unfold Used; infer_instance

def dutiesOf (c : Dev nD) : CK → Finset (Fin 31)
  | .inl _ => Finset.univ
  | .inr (a, j) => if Used c a j then {0} else ∅

/-- One round: the barrier's thirty-one contributions of one unit, and one contribution of a block's credit to every
    used counter of the arrays. -/
def sched : Rounds.Schedule (GSem nD τ sig) (Fin 31) 𝕄 where
  duties g R := if R = 0 ∧ g.1.2 = .tc then (match kindOf g.2 with | some k => dutiesOf g.1.1 k | none => ∅) else ∅
  unitless _ := False
  amount g _ _ := match kindOf g.2 with | some (.inl _) => 1 | _ => N
  payload g _ d := match kindOf g.2 with | some k => payOf st g.1.1 k d | none => iprop(emp)
  amount_pos g _ _ _ := by
    rcases kindOf g.2 with _ | (_ | _)
    · exact N_pos
    · exact Nat.one_pos
    · exact N_pos

instance payOf_storable (c : Dev nD) (k : CK) (d : Fin 31) : BI.Storable (upEmb : UEmb _ 𝕄) (payOf (F := F) st c k d) := by
  rcases k with _ | ⟨a, j⟩
  · show BI.Storable _ (barPay c d); unfold barPay; infer_instance
  · match a with
    | 0 => show BI.Storable _ (sPts c (ahead c j) (st c)); infer_instance
    | 1 => show BI.Storable _ (vPts c j (partsOf st c)); infer_instance
    | 2 => show BI.Storable _ (gPts c c (lent j) (gathered st)); infer_instance
    | 3 => show BI.Storable _ (gPts c j fullShare (gathered st)); infer_instance

instance sched_storable (g : GSem nD τ sig) (R : ℕ) (d : Fin 31) : BI.Storable (upEmb : UEmb _ 𝕄) ((sched (F := F) st).payload g R d) := by
  show BI.Storable _ (match kindOf g.2 with | some k => payOf st g.1.1 k d | none => iprop(emp))
  split <;> infer_instance

/-- Who contributes to a counter in its one round. -/
theorem duties_at (c : Dev nD) (k : CK) : (sched (F := F) st).duties (cellAt c k) 0 = dutiesOf c k := by
  dsimp only [sched]
  rw [if_pos ⟨rfl, rfl⟩, kindOf_csem]
/-- Nobody contributes after the first round. -/
theorem duties_later (g : GSem nD τ sig) : ∀ R, 1 ≤ R → (sched (F := F) st).duties g R = ∅ :=
  fun R hR => by dsimp only [sched]; exact if_neg fun h => by omega
/-- Nobody ever contributes to an unused counter. -/
theorem duties_unused (c : Dev nD) (a : Fin 4) (j : Dev nD) (h : ¬ Used c a j) : ∀ R, 0 ≤ R → (sched (F := F) st).duties (arrC c a j) R = ∅ := by
  intro R _
  rcases R with _ | R
  · rw [duties_at]; exact if_neg h
  · exact duties_later st _ _ (by omega)
/-- What a contribution to a counter hands over. -/
theorem payload_at (c : Dev nD) (k : CK) (R : ℕ) (d : Fin 31) : (sched (F := F) st).payload (cellAt c k) R d = payOf st c k d := by
  dsimp only [sched]; rw [kindOf_csem]
/-- A contribution to the barrier is one unit. -/
theorem amount_bar (c : Dev nD) (R : ℕ) (d : Fin 31) : (sched (F := F) st).amount (barC c) R d = 1 := by
  dsimp only [sched]; rw [kindOf_csem]
/-- A contribution to a counter of the arrays is the units of one chunk. -/
theorem amount_arr (c : Dev nD) (a : Fin 4) (j : Dev nD) (R : ℕ) (d : Fin 31) : (sched (F := F) st).amount (arrC c a j) R d = N := by
  dsimp only [sched]; rw [kindOf_csem]
/-- A used counter of the arrays has one contribution. -/
theorem duties_used (c : Dev nD) (a : Fin 4) (j : Dev nD) (h : Used c a j) : (sched (F := F) st).duties (arrC c a j) 0 = {0} := by
  rw [duties_at]; exact if_pos h

/-- The barrier reaches thirty-one. -/
theorem expect_bar (c : Dev nD) : (sched (F := F) st).expect (barC c) 0 = 31 := by
  unfold Schedule.expect Schedule.amountOf
  rw [Finset.sum_congr rfl fun d _ => amount_bar st c 0 d, duties_at, Finset.sum_const, smul_eq_mul, Nat.mul_one]
  exact Finset.card_univ.trans (Fintype.card_fin 31)
/-- A used counter of the arrays reaches the units of one chunk. -/
theorem expect_arr (c : Dev nD) (a : Fin 4) (j : Dev nD) (h : Used c a j) : (sched (F := F) st).expect (arrC c a j) 0 = N := by
  unfold Schedule.expect Schedule.amountOf
  rw [duties_used st c a j h, Finset.sum_singleton, amount_arr]

/-- All that the barrier hands over is what the thirty-one signals hand over. -/
theorem rest_bar (c : Dev nD) : bigSep ((sched (F := F) st).duties (barC c) 0 \ ∅) (fun d => (sched (F := F) st).payload (barC c) 0 d)
    = bigSep Finset.univ fun r => barPay (F := F) c r := by
  rw [Finset.sdiff_empty, duties_at]
  exact bigSep_congr fun d _ => payload_at st c _ 0 d
/-- All that a used counter of the arrays hands over is what its one contribution does. -/
theorem rest_arr (c : Dev nD) (a : Fin 4) (j : Dev nD) (h : Used c a j) :
    bigSep ((sched (F := F) st).duties (arrC c a j) 0 \ ∅) (fun d => (sched (F := F) st).payload (arrC c a j) 0 d) = payOf st c (.inr (a, j)) 0 := by
  rw [Finset.sdiff_empty, duties_used st c a j h, bigSep_singleton, payload_at]

/-- In arrays 0, 1 and 2 every slot but zero is used. -/
theorem used_succ (c : Dev nD) {a : Fin 4} (h : a ≠ 3) (r : Fin 31) : Used c a r.succ := by
  unfold Used; rw [if_neg h]; exact Fin.succ_ne_zero r
/-- In array 3 the slot of every other device is used. -/
theorem used_from (c j : Dev nD) (h : j ≠ c) : Used c 3 j := by unfold Used; rw [if_pos rfl]; exact h

/-! ## What a device owes, and the levels -/

/-- The `r`-th barrier unit, -/
def oBar (c : Dev nD) (r : Fin 31) : CellTallies nD τ sig Unit := tallyAt (barC (fwd c r)) () 1
/-- the credit of the `r`-th copy of the scatter phase, -/
def oRs (c : Dev nD) (r : Fin 31) : CellTallies nD τ sig Unit := tallyAt (arrC (fwd c r) 1 r.succ) () N
/-- and of the `r`-th copy of the gather phase. -/
def oAg (c : Dev nD) (r : Fin 31) : CellTallies nD τ sig Unit := tallyAt (arrC (fwd c r) 3 c) () N

/-- What is owed at the places of a list. -/
def owedL (f : Fin 31 → CellTallies nD τ sig Unit) (rs : List (Fin 31)) : CellTallies nD τ sig Unit := (rs.map f).sum
/-- What is owed at a list of places is what is owed at the first and at the rest. -/
theorem owedL_cons (f : Fin 31 → CellTallies nD τ sig Unit) (r : Fin 31) (rs : List (Fin 31)) : owedL f (r :: rs) = f r + owedL f rs := by
  unfold owedL; rw [List.map_cons, List.sum_cons]
/-- At no places nothing is owed. -/
theorem owedL_nil (f : Fin 31 → CellTallies nD τ sig Unit) : owedL f [] = 0 := rfl

/-- What device `c` owes at launch. -/
def O₀ (c : Dev nD) : CellTallies nD τ sig Unit := owedL (oBar c) places + (owedL (oRs c) places + owedL (oAg c) places)

/-- Whatever is owed at a list of places is owed at one of them. -/
theorem owedL_pos {f : Fin 31 → CellTallies nD τ sig Unit} {rs : List (Fin 31)} {g : GSem nD τ sig} {u : Unit}
    (h : 0 < owedL f rs g u) : ∃ r, 0 < f r g u := by
  induction rs with
  | nil => exact absurd h (Nat.lt_irrefl 0)
  | cons r rs ih =>
    rw [owedL_cons, Pi.add_apply, Finsupp.add_apply] at h
    by_cases h0 : 0 < f r g u
    · exact ⟨r, h0⟩
    · exact ih (by omega)

/-- A tally on one counter owes nothing on another. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

def L (g : GSem nD τ sig) : Finset Unit := if g.1.2 = .tc then {()} else ∅
/-- Barriers at 1, the arrivals of parts at 2, of sums at 3, everything else at 0. -/
def lv (g : GSem nD τ sig) (_ : Unit) : ℕ := match kindOf g.2 with
  | some (.inl _) => 1
  | some (.inr (1, _)) => 2
  | some (.inr (3, _)) => 3
  | _ => 0

/-- Other cores than the tensor cores have no levels. -/
theorem L_of_ne (g : GSem nD τ sig) (h : g.1.2 ≠ .tc) : L g = ∅ := if_neg h
/-- Every semaphore of a tensor core has its level. -/
theorem L_tc (c : Dev nD) (sm : SemLoc sig) : L ((c : Thread nD τ), sm) = {()} := if_pos rfl
/-- The barrier has level one. -/
theorem lv_bar (c : Dev nD) : lv (barC c) () = 1 := by dsimp only [lv]; rw [kindOf_csem]
/-- The arrivals of the parts have level two. -/
theorem lv_part (c j : Dev nD) : lv (arrC c 1 j) () = 2 := by dsimp only [lv]; rw [kindOf_csem]; rfl
/-- The arrivals of the sums have level three. -/
theorem lv_sum (c j : Dev nD) : lv (arrC c 3 j) () = 3 := by dsimp only [lv]; rw [kindOf_csem]; rfl

/-- What is owed to the barriers has level one. -/
theorem oBar_pos {c : Dev nD} {rs : List (Fin 31)} {g : GSem nD τ sig} {u : Unit} (h : 0 < owedL (oBar c) rs g u) : g.1.2 = .tc ∧ lv g () = 1 := by
  obtain ⟨r, hr⟩ := owedL_pos h; rw [tally_pos hr]; exact ⟨rfl, lv_bar _⟩
/-- What is owed as parts has level two. -/
theorem oRs_pos {c : Dev nD} {rs : List (Fin 31)} {g : GSem nD τ sig} {u : Unit} (h : 0 < owedL (oRs c) rs g u) : g.1.2 = .tc ∧ lv g () = 2 := by
  obtain ⟨r, hr⟩ := owedL_pos h; rw [tally_pos hr]; exact ⟨rfl, lv_part _ _⟩
/-- What is owed as sums has level three. -/
theorem oAg_pos {c : Dev nD} {rs : List (Fin 31)} {g : GSem nD τ sig} {u : Unit} (h : 0 < owedL (oAg c) rs g u) : g.1.2 = .tc ∧ lv g () = 3 := by
  obtain ⟨r, hr⟩ := owedL_pos h; rw [tally_pos hr]; exact ⟨rfl, lv_sum _ _⟩
/-- Whatever two debts owe together, one of them owes. -/
theorem tally_add_pos {O O' : CellTallies nD τ sig Unit} {g : GSem nD τ sig} {u : Unit} (h : 0 < (O + O') g u) : 0 < O g u ∨ 0 < O' g u := by
  rw [Pi.add_apply, Finsupp.add_apply] at h
  omega

omit [FloatOps F] in
/-- A core may wait on a semaphore of level at most `n` while everything it owes lies above `n`. -/
theorem mayWait_below (c : Dev nD) (sm : SemLoc sig) (O : CellTallies nD τ sig Unit) (n : ℕ) (hlow : lv ((c : Thread nD τ), sm) () ≤ n)
    (h : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hlow)
    (fun g u hg => (h g u hg).2)

omit [FloatOps F] in
/-- At its barrier a device owes the credits of its copies only; -/
theorem mayWait_bar (c : Dev nD) : (levAts L lv : sProp 𝕄) ⊢ MayWait (c : Thread nD τ) (.reg barS) () (owedL (oRs c) places + owedL (oAg c) places) :=
  mayWait_below c (csem (.inl ())) _ 1 (le_of_eq (lv_bar c)) fun g u hg => by
    rcases tally_add_pos hg with h | h
    · rw [(oRs_pos h).2]; exact ⟨(oRs_pos h).1, by decide⟩
    · rw [(oAg_pos h).2]; exact ⟨(oAg_pos h).1, by decide⟩
omit [FloatOps F] in
/-- waiting for the parts, the credits of the gather phase only. -/
theorem mayWait_part (c : Dev nD) (j : Dev nD) : (levAts L lv : sProp 𝕄) ⊢ MayWait (c : Thread nD τ) (csem (.inr (1, j))) () (owedL (oAg c) places) :=
  mayWait_below c (csem (.inr (1, j))) _ 2 (le_of_eq (lv_part c j)) fun g u hg => by
    rw [(oAg_pos hg).2]; exact ⟨(oAg_pos hg).1, by decide⟩
omit [FloatOps F] in
/-- A staging semaphore may be waited on at launch and at the end. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by dsimp only [lv]; rw [hq]) fun g u hg => ?_
    rcases tally_add_pos hg with h | h
    · rw [(oBar_pos h).2]; exact ⟨(oBar_pos h).1, by decide⟩
    rcases tally_add_pos h with h | h
    · rw [(oRs_pos h).2]; exact ⟨(oRs_pos h).1, by decide⟩
    · rw [(oAg_pos h).2]; exact ⟨(oAg_pos h).1, by decide⟩
  · rw [MayWait_zero]; iintro -; iempintro

/-- The pipeline's own semaphores are none of the counters. -/
theorem kindOf_staging (q : DmaSem sig) (h : q.val < 4) : kindOf (.dma q) = none := by
  unfold kindOf
  refine dif_neg ?_
  rintro ⟨_ | ⟨a, j⟩, hk⟩
  · cases hk
  · have := congrArg Fin.val (SemLoc.dma.inj hk)
    have h2 : 4 + 32 * a.val + j.val = q.val := this
    omega

end Cert.Exchange

end
-- ==== Proof.Steps.lean ====
/- One rule per kind of operation, at an arbitrary place, and the rule that runs an operation at all thirty-one places. -/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## An operation at every place -/

/-- The assertions at the places of a list, together. -/
def sepL : List (Fin 31) → (Fin 31 → sProp 𝕄) → sProp 𝕄
  | [], _ => iprop(emp)
  | r :: rs, Φ => iprop(Φ r ∗ sepL rs Φ)

omit [FloatOps F] in
/-- A separating product over a list without repeats is the one over its members. -/
theorem sepL_eq (Φ : Fin 31 → sProp 𝕄) : ∀ rs : List (Fin 31), rs.Nodup → bigSep rs.toFinset Φ = sepL rs Φ
  | [], _ => by rw [List.toFinset_nil]; exact bigSep_empty
  | r :: rs, h => by
    rw [List.toFinset_cons, bigSep_insert (fun hm => (List.nodup_cons.mp h).1 (List.mem_toFinset.mp hm)), sepL_eq Φ rs (List.nodup_cons.mp h).2]
    rfl
omit [FloatOps F] in
/-- A separating product over all places is the one over their list. -/
theorem sepL_places (Φ : Fin 31 → sProp 𝕄) : bigSep Finset.univ Φ = sepL places Φ := by
  rw [← sepL_eq Φ places (by decide)]
  congr 1

/-- If an operation turns `Pre r` into `Post r`, the operations at the places of a list turn all of them, a common
    assertion `Inv` changing with what is left. -/
theorem wp_each (c : Dev nD) (f : Fin 31 → P F) (Pre Post : Fin 31 → sProp 𝕄) (Inv : List (Fin 31) → sProp 𝕄) {α : Type}
    (step : ∀ r rs (k : PUnit → Prog (TpuEff nD τ sig (Elt F) Λ₀ .tc) α) (Q : α → sProp 𝕄),
      iprop(Pre r ∗ Inv (r :: rs)) ⊢ iprop(((Post r ∗ Inv rs) -∗ WP c (k ⟨⟩) Q) -∗ WP c (f r >>= k) Q)) :
    ∀ (rs : List (Fin 31)) (k : PUnit → Prog (TpuEff nD τ sig (Elt F) Λ₀ .tc) α) (Q : α → sProp 𝕄),
      iprop(sepL rs Pre ∗ Inv rs) ⊢ iprop(((sepL rs Post ∗ Inv []) -∗ WP c (k ⟨⟩) Q) -∗ WP c (each rs f >>= k) Q)
  | [], k, Q => by
    show iprop(emp ∗ Inv []) ⊢ iprop(((emp ∗ Inv []) -∗ WP c (k ⟨⟩) Q) -∗ WP c (k ⟨⟩) Q)
    iintro H Hk
    iapply Hk
    iexact H
  | r :: rs, k, Q => by
    show iprop((Pre r ∗ sepL rs Pre) ∗ Inv (r :: rs)) ⊢ iprop((((Post r ∗ sepL rs Post) ∗ Inv []) -∗ WP c (k ⟨⟩) Q) -∗ WP c ((f r >>= fun _ => each rs f) >>= k) Q)
    rw [show ((f r >>= fun _ => each rs f) >>= k : Prog (TpuEff nD τ sig (Elt F) Λ₀ .tc) α) = f r >>= fun _ => each rs f >>= k from Prog.bind_assoc _ _ _]
    iintro ⟨⟨Hr, Hrs⟩, HI⟩ Hk
    iapply (step r rs (fun _ => each rs f >>= k) Q) $$ [Hr HI]
    · isplitl [Hr] <;> iassumption
    iintro ⟨Hp, HI⟩
    iapply (wp_each c f Pre Post Inv step rs k Q) $$ [Hrs HI]
    · isplitl [Hrs] <;> iassumption
    iintro ⟨Hps, HI⟩
    iapply Hk
    isplitr [HI]
    · isplitl [Hp] <;> iassumption
    iexact HI

/-! ## The records every device holds -/

variable (st : Dev nD → (cc0_scratch0 : Ref sig .tc).ty.Contents (Elt F))
variable (K : Dev nD × CK → ℕ)

/-- Every counter of every device keeps the schedule, and its round has begun. -/
def records : sProp 𝕄 :=
  iprop((bigSep Finset.univ fun p : Dev nD × CK => cellInv ER (sched st) (K p) (cellAt p.1 p.2))
    ∗ bigSep Finset.univ fun p : Dev nD × CK => reached ER (cellAt p.1 p.2) 0)

instance records_persistent : BI.Persistent (records (F := F) st K) := by unfold records; infer_instance

/-- The records contain the invariant of every counter. -/
theorem rec_inv (c : Dev nD) (k : CK) : records (F := F) st K ⊢ cellInv ER (sched st) (K (c, k)) (cellAt c k) :=
  sep_elim_left.trans (bigSep_elim (Φ := fun p : Dev nD × CK => cellInv ER (sched st) (K p) (cellAt p.1 p.2)) (Finset.mem_univ (c, k)))
/-- The records contain that every counter has begun its round. -/
theorem rec_reached (c : Dev nD) (k : CK) : records (F := F) st K ⊢ reached ER (cellAt c k) 0 :=
  sep_elim_right.trans (bigSep_elim (Φ := fun p : Dev nD × CK => (reached ER (cellAt p.1 p.2) 0 : sProp 𝕄)) (Finset.mem_univ (c, k)))

/-- What a device owes, whatever it waited on. -/
def owesW (c : Dev nD) (O : CellTallies nD τ sig Unit) : sProp 𝕄 := iprop(∃ W, owes (c : Thread nD τ) O W)

omit [FloatOps F] in
/-- What is owed at a list of places, with the first place's part taken out. -/
theorem owed_peel (f : Fin 31 → CellTallies nD τ sig Unit) (r : Fin 31) (rs : List (Fin 31)) (R : CellTallies nD τ sig Unit) :
    owedL f (r :: rs) + R = (owedL f rs + R) + f r := by
  rw [owedL_cons, add_comm (f r), add_right_comm]

/-! ## The barrier -/

/-- A signal of the barrier: it hands over what it carries and pays one place of the debt. -/
theorem step_bar (c : Dev nD) (R : CellTallies nD τ sig Unit) {α : Type} (r : Fin 31) (rs : List (Fin 31))
    (k : PUnit → Prog (TpuEff nD τ sig (Elt F) Λ₀ .tc) α) (Q : α → sProp 𝕄) :
    iprop((dutyTok ER (barC (fwd c r)) 0 r ∗ barPay (fwd c r) r) ∗ (records st K ∗ owesW c (owedL (oBar c) (r :: rs) + R)))
      ⊢ iprop(((emp ∗ (records st K ∗ owesW c (owedL (oBar c) rs + R))) -∗ WP c (k ⟨⟩) Q) -∗ WP c (opBar c r >>= k) Q) := by
  have hO : owedL (oBar c) (r :: rs) + R = (owedL (oBar c) rs + R) + tallyAt (barC (fwd c r)) () 1 := by
    exact owed_peel (oBar c) r rs R
  have hduty : (sched (F := F) st).duties ((fwd c r : Thread nD τ), .reg barS) 0 = Finset.univ := duties_at st (fwd c r) (.inl ())
  have hpay : (sched (F := F) st).payload ((fwd c r : Thread nD τ), .reg barS) 0 r = barPay (fwd c r) r := payload_at st (fwd c r) (.inl ()) 0 r
  unfold opBar WP
  rw [dstBar_eq]
  simp only [semSignalWord, Prog.lift, Prog.bind_op, Prog.bind_ret]
  unfold owesW
  iintro ⟨⟨Ht, Hp⟩, ⟨#HR, ⟨%W, HO⟩⟩⟩ Hk
  iapply (Rounds.wp_signal 𝒱₀ ER (sched st) (c : Thread nD τ) none (dst := (fwd c r : Thread nD τ)) (κ := K (fwd c r, .inl ()))
      (d := r) (hduty ▸ Finset.mem_univ r) ((amount_bar st (fwd c r) 0 r).trans (by decide)) () (owedL (oBar c) rs + R) hO)
    $$ [Ht Hp HO]
  · isplitr; · iapply (rec_inv st K (fwd c r) (.inl ())); iexact HR
    isplitl [HO]; · iexact HO
    isplitl [Ht]; · iexact Ht
    isplitl [Hp]; · iapply (Entails.of_eq hpay.symm); iexact Hp
    iapply (rec_reached st K (fwd c r) (.inl ())); iexact HR
  iintro HO
  iapply Hk
  isplitr; · iempintro
  isplitr; · iexact HR
  iexists W; iexact HO

/-- The wait of the barrier: it takes what all the others handed over and leaves the counter at zero. -/
theorem step_barWait (c : Dev nD) {α : Type} (k : PUnit → Prog (TpuEff nD τ sig (Elt F) Λ₀ .tc) α) (Q : α → sProp 𝕄) :
    iprop((cred (tallyAt (barC c) () 31) ∗ atPos ER (barC c) 0 ∅ 0) ∗ (records st K ∗ levAts L lv ∗ owesW c (owedL (oRs c) places + owedL (oAg c) places)))
      ⊢ iprop((((bigSep Finset.univ fun r => barPay c r) ∗ semVal (barC c) 0 ∗ owesW c (owedL (oRs c) places + owedL (oAg c) places)) -∗ WP c (k ⟨⟩) Q)
          -∗ WP c (semWaitWord barS 31#32 >>= k) Q) := by
  have hrest : bigSep ((sched (F := F) st).duties ((c : Thread nD τ), .reg barS) 0 \ ∅) (fun d => (sched (F := F) st).payload ((c : Thread nD τ), .reg barS) 0 d)
    = bigSep Finset.univ fun r => barPay (F := F) c r := rest_bar st c
  unfold WP
  simp only [semWaitWord, Prog.lift, Prog.bind_op, Prog.bind_ret]
  unfold owesW
  iintro ⟨⟨Hc, Hat⟩, ⟨#HR, #Hlev, ⟨%W, HO⟩⟩⟩ Hk
  iapply (Rounds.wp_wait_rest_token 𝒱₀ ER (sched st) (c : Thread nD τ) none (κ := K (c, .inl ()))
      (wpE_semWait_eq 𝒱₀ (c : Thread nD τ) none Set.univ) (Set.mem_univ _) () (O := owedL (oRs c) places + owedL (oAg c) places) (W := W) (R := 0) (m := 0) (T := ∅)
      ((by decide : 0 + (31#32).toNat = 31).trans (expect_bar st c).symm)) $$ [Hc HO Hat]
  · isplitr; · iapply (rec_inv st K c (.inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq hrest) $$ Hpay
  imod (Rounds.cell_close ER (sched st) (Set.mem_univ (K (c, .inl ()))) (fun h => h) (R := 0 + 1) (duties_later st (barC c))) $$ [Hat] with Hz
  · isplitr; · iapply (rec_inv st K c (.inl ())); iexact HR
    iexact Hat
  iapply Hk
  isplitl [Hp]; · iexact Hp
  isplitl [Hz]; · iexact Hz
  iexists _; iexact HO

/-! ## A wait on a counter of an array -/

/-- A wait for a block on a used counter takes what came with the block, and leaves the counter at zero for good. -/
theorem step_wait (c : Dev nD) (a : Fin 4) (j : Dev nD) (hu : Used c a j) (O : CellTallies nD τ sig Unit)
    (hmay : (levAts L lv : sProp 𝕄) ⊢ MayWait (c : Thread nD τ) (csem (.inr (a, j))) () O) (s : DmaSem sig) (hs : s = slotSem a j)
    {sps dps : Space} {ss ds : Shape} {se de : EltTy} (src : Memref sig .tc sps ss se) (dst : Memref sig .tc dps ds de)
    (h₁ : src.view.WordExact) (h₂ : dst.view.WordExact) (hN : dst.view.dmaCredit = N) {α : Type}
    (k : PUnit → Prog (TpuEff nD τ sig (Elt F) Λ₀ .tc) α) (Q : α → sProp 𝕄) :
    iprop((cred (tallyAt (arrC c a j) () N) ∗ atPos ER (arrC c a j) 0 ∅ 0) ∗ (records st K ∗ levAts L lv ∗ owesW c O))
      ⊢ iprop((((payOf st c (.inr (a, j)) 0 ∗ semVal (arrC c a j) 0) ∗ (records st K ∗ levAts L lv ∗ owesW c O)) -∗ WP c (k ⟨⟩) Q)
          -∗ WP c ((Prog.lift (.waitDma2 s src dst h₁ h₂) : P F) >>= k) Q) := by
  subst hs
  have hrest : bigSep ((sched (F := F) st).duties ((c : Thread nD τ), .dma (slotSem a j)) 0 \ ∅) (fun d => (sched (F := F) st).payload ((c : Thread nD τ), .dma (slotSem a j)) 0 d)
    = payOf st c (.inr (a, j)) 0 := rest_arr st c a j hu
  unfold WP
  simp only [Prog.lift, Prog.bind_op, Prog.bind_ret]
  unfold owesW
  iintro ⟨⟨Hc, Hat⟩, ⟨#HR, #Hlev, ⟨%W, HO⟩⟩⟩ Hk
  rw [← hN]
  iapply (Rounds.wp_wait_rest_token 𝒱₀ ER (sched st) (c : Thread nD τ) none (κ := K (c, .inr (a, j)))
      (wpE_waitDma2_eq 𝒱₀ (c : Thread nD τ) none Set.univ) (Set.mem_univ _) () (O := O) (W := W) (R := 0) (m := 0) (T := ∅)
      (by rw [Nat.zero_add, hN]; exact (expect_arr st c a j hu).symm)) $$ [Hc HO Hat]
  · isplitr; · iapply (rec_inv st K c (.inr (a, j))); iexact HR
    isplitl [Hc]; · iexact Hc
    isplitl [HO]; · iexact HO
    isplitr; · iapply hmay; iexact Hlev
    iexact Hat
  iintro ⟨HO, Hat, -, Hpay⟩
  ihave Hp := (Entails.of_eq hrest) $$ Hpay
  imod (Rounds.cell_close ER (sched st) (Set.mem_univ (K (c, .inr (a, j)))) (fun h => h) (R := 0 + 1) (duties_later st (arrC c a j))) $$ [Hat] with Hz
  · isplitr; · iapply (rec_inv st K c (.inr (a, j))); iexact HR
    iexact Hat
  iapply Hk
  isplitl [Hp Hz]
  · isplitl [Hp] <;> iassumption
  isplitr; · iexact HR
  isplitr; · iexact Hlev
  iexists _; iexact HO

/-! ## The copies -/

omit [FloatOps F] in
/-- Owning the rows for another device is owning what the copy to it reads. -/
theorem rows_pts (c : Dev nD) (r : Fin 31) (f : (cc0_scratch0 : Ref sig .tc).ty.Contents (Elt F)) :
    (sPts c (fwd c r) f : sProp 𝕄) = (((rowsTo c r).view.loc (c : Thread nD τ)) ↦[(rowsTo c r).view.set]{fullShare} f) := by
  rw [rowsTo_set]; rfl
omit [FloatOps F] in
/-- Owning a slot of the receiving buffer is owning where its copy lands. -/
theorem part_pts (c : Dev nD) (r : Fin 31) (f : (cc0_scratch1 : Ref sig .tc).ty.Contents (Elt F)) :
    (vPts c r.succ f : sProp 𝕄) = (((partAt r).view.loc (c : Thread nD τ)) ↦[(partAt r).view.set]{fullShare} f) := by
  rw [partAt_set]; rfl
omit [FloatOps F] in
/-- Owning a slot of the gathering buffer is owning what the gather copies read or write. -/
theorem chunk_pts (p c : Dev nD) (q : PosShare TreeShare) (f : (cc0_scratch2 : Ref sig .tc).ty.Contents (Elt F)) :
    (gPts p c q f : sProp 𝕄) = (((chunkOwn c).view.loc (p : Thread nD τ)) ↦[(chunkOwn c).view.set]{q} f) := by
  rw [chunkOwn_set]; rfl

/-- The part a copy of the scatter phase lands, as it is passed on. -/
theorem part_landed (c : Dev nD) (r : Fin 31) (fd : (cc0_scratch1 : Ref sig .tc).ty.Contents (Elt F)) :
    ((((partAt r).view.loc (fwd c r : Thread nD τ)) ↦[(partAt r).view.set]{fullShare} (partAt r).view.write (Elt F) fd ((rowsTo c r).view.read (Elt F) (st c)) Finset.univ) : sProp 𝕄)
      ⊢ vPts (fwd c r) r.succ (partsOf st (fwd c r)) := by
  rw [part_pts]
  exact Entails.of_eq (pointsTo_congr (by rw [partAt_set]; exact part_lands st c r fd))
/-- The sum a copy of the gather phase lands. -/
theorem chunk_landed (p c : Dev nD) (g fd : (cc0_scratch2 : Ref sig .tc).ty.Contents (Elt F)) :
    ((((chunkOwn c).view.loc (p : Thread nD τ)) ↦[(chunkOwn c).view.set]{fullShare} (chunkOwn c).view.write (Elt F) fd ((chunkOwn c).view.read (Elt F) g) Finset.univ) : sProp 𝕄)
      ⊢ gPts p c fullShare g := by
  rw [chunk_pts]
  exact Entails.of_eq (pointsTo_congr (by rw [chunkOwn_set]; exact chunk_lands c g fd))

/-- A copy to device `p`: its source and the right to where it lands go in, the credit to await that it has left comes out. -/
theorem step_send (c p n : Dev nD) (hn : n = p) {src dst : Memref sig .tc .vmem S16x512 .bf16} {a b : Fin 4} {i j : Dev nD} (hi : Used c a i) (hj : Used p b j)
    {sS sR : DmaSem sig} (hS : sS = slotSem a i) (hR : sR = slotSem b j)
    {hsc : (dst : Memref sig (Dev.tc n : Thread nD τ).2.kind .vmem S16x512 .bf16).view.ref.isScScratch = false}
    {hsrc : src.view.WordExact} {hdst : dst.view.WordExact}
    {hsem : DmaTarget.Typed .vmem (.dma sR) (.remote (Dev.tc n : Thread nD τ) dst (.dma sS) hsc)}
    (hN : dst.view.dmaCredit = N) (q : PosShare TreeShare) (fs : Buf (Elt F) (src.view.loc (c : Thread nD τ))) (fd : Buf (Elt F) (dst.view.loc (p : Thread nD τ)))
    (O₁ O : CellTallies nD τ sig Unit) (hO : O₁ = O + tallyAt (arrC p b j) () N)
    (hp₁ : ((src.view.loc (c : Thread nD τ)) ↦[src.view.set]{q} fs) ⊢ payOf st c (.inr (a, i)) 0)
    (hp₂ : ((dst.view.loc (p : Thread nD τ)) ↦[dst.view.set]{fullShare} dst.view.write (Elt F) fd (src.view.read (Elt F) fs) Finset.univ) ⊢ payOf st p (.inr (b, j)) 0)
    {α : Type} (k : PUnit → Prog (TpuEff nD τ sig (Elt F) Λ₀ .tc) α) (Q : α → sProp 𝕄) :
    iprop((dutyTok ER (arrC c a i) 0 0 ∗ dutyTok ER (arrC p b j) 0 0 ∗ ((src.view.loc (c : Thread nD τ)) ↦[src.view.set]{q} fs)
          ∗ ((dst.view.loc (p : Thread nD τ)) ↦[dst.view.set]{fullShare} fd)) ∗ (records st K ∗ owesW c O₁))
      ⊢ iprop(((cred (tallyAt (arrC c a i) () N) ∗ (records st K ∗ owesW c O)) -∗ WP c (k ⟨⟩) Q)
          -∗ WP c (.op (.enqueueDma src (.remote (Dev.tc n : Thread nD τ) dst (.dma sS) hsc) (.dma sR) hsrc hdst hsem) k) Q) := by
  subst hn hS hR
  have h₁ : (0 : Fin 31) ∈ (sched (F := F) st).duties ((c : Thread nD τ), .dma (slotSem a i)) 0 := (duties_used st c a i hi) ▸ Finset.mem_singleton_self _
  have h₂ : (0 : Fin 31) ∈ (sched (F := F) st).duties ((n : Thread nD τ), .dma (slotSem b j)) 0 := (duties_used st n b j hj) ▸ Finset.mem_singleton_self _
  have q₁ : (sched (F := F) st).payload ((c : Thread nD τ), .dma (slotSem a i)) 0 0 = payOf st c (.inr (a, i)) 0 := payload_at st c (.inr (a, i)) 0 0
  have q₂ : (sched (F := F) st).payload ((n : Thread nD τ), .dma (slotSem b j)) 0 0 = payOf st n (.inr (b, j)) 0 := payload_at st n (.inr (b, j)) 0 0
  unfold owesW WP
  iintro ⟨⟨Ht, Ht', Hs, Hv⟩, ⟨#HR, ⟨%W, HO⟩⟩⟩ Hk
  iapply (Rounds.wp_send_pointsTo 𝒱₀ ER (sched st) (c : Thread nD τ) none (κ₁ := K (c, .inr (a, i))) (κ₂ := K (n, .inr (b, j)))
      (r₁ := 0) (r₂ := 0) (d₁ := 0) (d₂ := 0) (q := q) (fs := fs) (fd := fd) h₁ h₂
      () () N hN (amount_arr st c a i 0 0) (amount_arr st n b j 0 0) O hO (W := W)
      (hp₁.trans (Entails.of_eq q₁.symm)) (hp₂.trans (Entails.of_eq q₂.symm))) $$ [Ht Ht' Hs Hv HO]
  · isplitr; · iapply (rec_inv st K c (.inr (a, i))); iexact HR
    isplitr; · iapply (rec_inv st K n (.inr (b, j))); iexact HR
    isplitl [Hs]; · iexact Hs
    isplitl [Hv]; · iexact Hv
    isplitl [HO]; · iexact HO
    isplitl [Ht]; · iexact Ht
    isplitr; · iapply (rec_reached st K c (.inr (a, i))); iexact HR
    isplitl [Ht']; · iexact Ht'
    iapply (rec_reached st K n (.inr (b, j))); iexact HR
  iintro ⟨Hc, HO⟩
  iapply Hk
  isplitl [Hc]; · iexact Hc
  isplitr; · iexact HR
  iexists W; iexact HO

/-- A copy into a slot of the receiving buffer counts for the units of one chunk. -/
theorem credit_part (r : Fin 31) : (partAt r).view.dmaCredit = N := rfl
/-- A copy of the own summed chunk counts for the units of one chunk. -/
theorem credit_own (c : Dev nD) : (chunkOwn c).view.dmaCredit = N := rfl
/-- A copy of another device's summed chunk counts for the units of one chunk. -/
theorem credit_from (c : Dev nD) (r : Fin 31) : (chunkFrom c r).view.dmaCredit = N := rfl
/-- A copy out of the sending buffer counts for the units of one chunk. -/
theorem credit_rows (c : Dev nD) (r : Fin 31) : (rowsTo c r).view.dmaCredit = N := rfl

/-- The rows a scatter copy has read are what its departure hands over. -/
theorem rows_pay (c : Dev nD) (r : Fin 31) :
    ((((rowsTo c r).view.loc (c : Thread nD τ)) ↦[(rowsTo c r).view.set]{fullShare} st c) : sProp 𝕄) ⊢ payOf st c (.inr (0, r.succ)) 0 :=
  Entails.of_eq (rows_pts (F := F) c r (st c)).symm
/-- The part a scatter copy has landed is what its arrival hands over. -/
theorem part_pay (c : Dev nD) (r : Fin 31) (fd : (cc0_scratch1 : Ref sig .tc).ty.Contents (Elt F)) :
    ((((partAt r).view.loc (fwd c r : Thread nD τ)) ↦[(partAt r).view.set]{fullShare} (partAt r).view.write (Elt F) fd ((rowsTo c r).view.read (Elt F) (st c)) Finset.univ) : sProp 𝕄)
      ⊢ payOf st (fwd c r) (.inr (1, r.succ)) 0 := part_landed (F := F) st c r fd
/-- The share a gather copy has read is what its departure hands over. -/
theorem lent_pay (c : Dev nD) (r : Fin 31) :
    ((((chunkOwn c).view.loc (c : Thread nD τ)) ↦[(chunkOwn c).view.set]{lent r.succ} gathered st) : sProp 𝕄) ⊢ payOf st c (.inr (2, r.succ)) 0 :=
  Entails.of_eq (chunk_pts (F := F) c c (lent r.succ) (gathered st)).symm
/-- The sum a gather copy has landed is what its arrival hands over. -/
theorem sum_pay (c : Dev nD) (r : Fin 31) (fd : (cc0_scratch2 : Ref sig .tc).ty.Contents (Elt F)) :
    ((((chunkOwn c).view.loc (fwd c r : Thread nD τ)) ↦[(chunkOwn c).view.set]{fullShare} (chunkOwn c).view.write (Elt F) fd ((chunkOwn c).view.read (Elt F) (gathered st)) Finset.univ) : sProp 𝕄)
      ⊢ payOf st (fwd c r) (.inr (3, c)) 0 := chunk_landed (F := F) (fwd c r) c (gathered st) fd

/-- A copy of the scatter phase: a chunk of the sending buffer, into the slot of its receiver that only this device writes. -/
theorem step_rs (c : Dev nD) (R : CellTallies nD τ sig Unit) {α : Type} (r : Fin 31) (rs : List (Fin 31))
    (k : PUnit → Prog (TpuEff nD τ sig (Elt F) Λ₀ .tc) α) (Q : α → sProp 𝕄) :
    iprop((dutyTok ER (arrC c 0 r.succ) 0 0 ∗ dutyTok ER (arrC (fwd c r) 1 r.succ) 0 0 ∗ sPts c (fwd c r) (st c) ∗ (∃ f, vPts (fwd c r) r.succ f))
        ∗ (records st K ∗ owesW c (owedL (oRs c) (r :: rs) + R)))
      ⊢ iprop(((cred (tallyAt (arrC c 0 r.succ) () N) ∗ (records st K ∗ owesW c (owedL (oRs c) rs + R))) -∗ WP c (k ⟨⟩) Q) -∗ WP c (opRs c r >>= k) Q) := by
  iintro ⟨⟨Ht, Ht', Hs, ⟨%fd, Hv⟩⟩, HR⟩
  have h := @step_send F _ st K c (fwd c r) (dstRs c r) (dstRs_eq c r) (rowsTo c r) (partAt r) 0 1 r.succ r.succ (used_succ c (by decide) r)
    (used_succ _ (by decide) r) _ _ (semAt3 r) (semAt4 r) rfl (rowsTo_words c r) (partAt_words r) ⟨⟨rfl, Or.inl rfl⟩, trivial⟩ (credit_part r) fullShare
    (st c) fd (owedL (oRs c) (r :: rs) + R) (owedL (oRs c) rs + R) (owed_peel (oRs c) r rs R) (rows_pay st c r) (part_pay st c r fd) α k Q
  iapply h
  isplitr [HR]
  · isplitl [Ht]; · iexact Ht
    isplitl [Ht']; · iexact Ht'
    isplitl [Hs]; · iapply (Entails.of_eq (rows_pts c r (st c))); iexact Hs
    iapply (Entails.of_eq (part_pts (fwd c r) r fd)); iexact Hv
  iexact HR

/-- A copy of the gather phase: the own summed chunk, read at a share lent for it, into the same slot of its receiver. -/
theorem step_ag (c : Dev nD) {α : Type} (r : Fin 31) (rs : List (Fin 31))
    (k : PUnit → Prog (TpuEff nD τ sig (Elt F) Λ₀ .tc) α) (Q : α → sProp 𝕄) :
    iprop((dutyTok ER (arrC c 2 r.succ) 0 0 ∗ dutyTok ER (arrC (fwd c r) 3 c) 0 0 ∗ gPts c c (lent r.succ) (gathered st) ∗ (∃ f, gPts (fwd c r) c fullShare f))
        ∗ (records st K ∗ owesW c (owedL (oAg c) (r :: rs) + 0)))
      ⊢ iprop(((cred (tallyAt (arrC c 2 r.succ) () N) ∗ (records st K ∗ owesW c (owedL (oAg c) rs + 0))) -∗ WP c (k ⟨⟩) Q) -∗ WP c (opAg c r >>= k) Q) := by
  iintro ⟨⟨Ht, Ht', Hs, ⟨%fd, Hv⟩⟩, HR⟩
  have h := @step_send F _ st K c (fwd c r) (dstAg c r) (dstAg_eq c r) (chunkOwn c) (chunkOwn c) 2 3 r.succ c (used_succ c (by decide) r)
    (used_from _ _ fun h => fwd_ne c r h.symm) _ _ (semAt5 r) (semOwn_eq c) rfl (chunkOwn_words c) (chunkOwn_words c) ⟨⟨rfl, Or.inl rfl⟩, trivial⟩ (credit_own c) (lent r.succ)
    (gathered st) fd (owedL (oAg c) (r :: rs) + 0) (owedL (oAg c) rs + 0) (owed_peel (oAg c) r rs 0) (lent_pay st c r) (sum_pay st c r fd) α k Q
  iapply h
  isplitr [HR]
  · isplitl [Ht]; · iexact Ht
    isplitl [Ht']; · iexact Ht'
    isplitl [Hs]; · iapply (Entails.of_eq (chunk_pts c c (lent r.succ) (gathered st))); iexact Hs
    iapply (Entails.of_eq (chunk_pts (fwd c r) c fullShare fd)); iexact Hv
  iexact HR

end Cert.Exchange

end
-- ==== Proof.Phases.lean ====
/- The body's stretches, each as one rule: what it starts from, what it leaves. -/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (st : Dev nD → (cc0_scratch0 : Ref sig .tc).ty.Contents (Elt F))
variable (K : Dev nD × CK → ℕ)

/-! ## Devices, split at one of them -/

omit [FloatOps F] in
/-- Everything over the devices, from one of them and an enumeration of the others. -/
theorem dev_split (x : Dev nD) (g : Fin 31 → Dev nD) (hi : Function.Injective g) (hne : ∀ r, g r ≠ x) (ho : ∀ j, j ≠ x → ∃ r, g r = j)
    (Φ : Dev nD → sProp 𝕄) : bigSep Finset.univ Φ = iprop(Φ x ∗ bigSep Finset.univ fun r => Φ (g r)) := by
  have h : (Finset.univ : Finset (Dev nD)).erase x = Finset.univ.map ⟨g, hi⟩ := by
    ext j
    rw [Finset.mem_erase, Finset.mem_map]
    constructor
    · rintro ⟨hj, -⟩
      obtain ⟨r, hr⟩ := ho j hj
      exact ⟨r, Finset.mem_univ r, hr⟩
    · rintro ⟨r, -, rfl⟩
      exact ⟨hne r, Finset.mem_univ _⟩
  rw [bigSep_univ_at Φ x, h, bigSep_map]
  rfl
omit [FloatOps F] in
/-- All devices are device zero and the thirty-one others. -/
theorem split_succ (Φ : Dev nD → sProp 𝕄) : bigSep Finset.univ Φ = iprop(Φ 0 ∗ bigSep Finset.univ fun r : Fin 31 => Φ r.succ) :=
  dev_split 0 (fun r => r.succ) (Fin.succ_injective 31) (fun r => Fin.succ_ne_zero r) (fun j hj => ⟨Fin.pred j hj, Fin.succ_pred j hj⟩) Φ
omit [FloatOps F] in
/-- All devices are `c` and the thirty-one places forward of it. -/
theorem split_fwd (c : Dev nD) (Φ : Dev nD → sProp 𝕄) : bigSep Finset.univ Φ = iprop(Φ c ∗ bigSep Finset.univ fun r => Φ (fwd c r)) :=
  dev_split c (fwd c) (fwd_inj c) (fwd_ne c) (fwd_onto c) Φ
omit [FloatOps F] in
/-- All devices are `c` and the thirty-one places backward of it. -/
theorem split_bwd (c : Dev nD) (Φ : Dev nD → sProp 𝕄) : bigSep Finset.univ Φ = iprop(Φ c ∗ bigSep Finset.univ fun r => Φ (bwd c r)) :=
  dev_split c (bwd c) (bwd_inj c) (bwd_ne c) (bwd_onto c) Φ
omit [FloatOps F] in
/-- Over all places it does not matter in which direction they are counted. -/
theorem rev_places (Φ : Fin 31 → sProp 𝕄) : (bigSep Finset.univ fun r => Φ (Fin.rev r)) = bigSep Finset.univ Φ :=
  (bigSep_univ_equiv Fin.revPerm Φ).symm

/-! ## Buffers, by their pieces -/

omit [FloatOps F] in
/-- Owning the sending buffer is owning the rows of every device. -/
theorem s_whole (c : Dev nD) (f : (cc0_scratch0 : Ref sig .tc).ty.Contents (Elt F)) :
    ((((c : Thread nD τ).loc cc0_scratch0) ↦{fullShare} f) : sProp 𝕄) = bigSep Finset.univ fun j => sPts c j f := by
  refine (congrArg (fun S => (((c : Thread nD τ).loc cc0_scratch0) ↦[S]{fullShare} f : sProp 𝕄)) rowSet_cover.symm).trans ?_
  exact pointsTo_biUnion _ _ fun a _ b _ h => rowSet_disj (Finset.mem_coe.mpr (Finset.mem_univ a)) (Finset.mem_coe.mpr (Finset.mem_univ b)) h
omit [FloatOps F] in
/-- Owning the receiving buffer is owning each of its slots. -/
theorem v_whole (c : Dev nD) (f : (cc0_scratch1 : Ref sig .tc).ty.Contents (Elt F)) :
    ((((c : Thread nD τ).loc cc0_scratch1) ↦{fullShare} f) : sProp 𝕄) = bigSep Finset.univ fun j => vPts c j f := by
  refine (congrArg (fun S => (((c : Thread nD τ).loc cc0_scratch1) ↦[S]{fullShare} f : sProp 𝕄)) slotSet_cover.symm).trans ?_
  exact pointsTo_biUnion _ _ fun a _ b _ h => slotSet_disj (Finset.mem_coe.mpr (Finset.mem_univ a)) (Finset.mem_coe.mpr (Finset.mem_univ b)) h
omit [FloatOps F] in
/-- Owning a share of the gathering buffer is owning that share of each of its slots. -/
theorem g_whole (c : Dev nD) (q : PosShare TreeShare) (f : (cc0_scratch2 : Ref sig .tc).ty.Contents (Elt F)) :
    ((((c : Thread nD τ).loc cc0_scratch2) ↦{q} f) : sProp 𝕄) = bigSep Finset.univ fun j => gPts c j q f := by
  refine (congrArg (fun S => (((c : Thread nD τ).loc cc0_scratch2) ↦[S]{q} f : sProp 𝕄)) slotSet_cover.symm).trans ?_
  exact pointsTo_biUnion _ _ fun a _ b _ h => slotSet_disj (Finset.mem_coe.mpr (Finset.mem_univ a)) (Finset.mem_coe.mpr (Finset.mem_univ b)) h

/-- What is left of a chunk's share when every copy of the gather phase has its part. -/
abbrev kept : PosShare TreeShare := Transfers.shareDrop fullShare 31

omit [FloatOps F] in
/-- Owning a slot whole is owning the kept share and the thirty-one lent ones. -/
theorem g_shares (c j : Dev nD) (f : (cc0_scratch2 : Ref sig .tc).ty.Contents (Elt F)) :
    (gPts c j fullShare f : sProp 𝕄) = iprop(gPts c j kept f ∗ bigSep Finset.univ fun r : Fin 31 => gPts c j (lent r.succ) f) := by
  unfold gPts
  exact BI.Entails.antisymm (Transfers.pointsTo_toks fullShare 31).1 (Transfers.pointsTo_toks fullShare 31).2

/-! ## Loads and stores -/

omit [FloatOps F] in
/-- The load of the own part stays within the device's own rows. -/
theorem own_rows_sub (c : Dev nD) : sM.view.setOn (rRows c).toLoadRect.set ⊆ rowSet c := by
  have h : (rRows c).toLoadRect.set = rowSet c := rows_set c (off2_eq c) _
  rw [h]
  exact fun i hi => by obtain ⟨x, hx, rfl⟩ := Finset.mem_map.mp hi; exact hx
omit [FloatOps F] in
/-- The load of slot zero stays within slot zero. -/
theorem slot0_sub : vM.view.setOn rSlot0.toLoadRect.set ⊆ slotSet 0 := by
  have h : rSlot0.toLoadRect.set = slotSet 0 := slab_set (0 : Dev nD) rfl _
  rw [h]
  exact fun i hi => by obtain ⟨x, hx, rfl⟩ := Finset.mem_map.mp hi; exact hx
omit [FloatOps F] in
/-- The load of the own slot stays within it. -/
theorem slot_sub (c : Dev nD) : gM.view.setOn (rSlot c).toLoadRect.set ⊆ slotSet c := by
  have h : (rSlot c).toLoadRect.set = slotSet c := slab_set c (off3_eq c) _
  rw [h]
  exact fun i hi => by obtain ⟨x, hx, rfl⟩ := Finset.mem_map.mp hi; exact hx
omit [FloatOps F] in
/-- The store of the own part stays within slot zero. -/
theorem slot0_acc : (vM.access rSlot0).setOn Finset.univ ⊆ slotSet 0 :=
  subset_of_eq ((View.set_slice_whole _ _).trans (slab_set (0 : Dev nD) rfl _))
omit [FloatOps F] in
/-- The store of the own sum stays within the own slot. -/
theorem slot_acc (c : Dev nD) : (gM.access (rSlot c)).setOn Finset.univ ⊆ slotSet c :=
  subset_of_eq ((View.set_slice_whole _ _).trans (slab_set c (off3_eq c) _))

/-- Storing the own sum makes the own slot what it is in the gathered buffer. -/
theorem sum_stored (c : Dev nD) (f : (cc0_scratch2 : Ref sig .tc).ty.Contents (Elt F)) :
    ∀ i ∈ slotSet c, (gM.access (rSlot c)).write (Elt F) f (k0_pay4 (partsOf st c)) Finset.univ i = gathered st i := by
  intro i hi
  obtain ⟨x, rfl⟩ : ∃ x : S1x16x512.Idx, (gM.access (rSlot c)).emb x = i := by
    rw [← slab_set c (off3_eq c) (k0_off3_inb c)] at hi
    exact LoadRect.exists_idx_of_mem _ hi
  rw [View.write_emb_of_mem _ _ (Finset.mem_univ x)]
  have hx : (gM.access (rSlot c)).emb x = (ix3 c (x 1) (x 2) : S32x16x512.Idx) := slab_idx c (off3_eq c) _ x
  rw [hx]
  show k0_pay4 (partsOf st c) x = k0_pay4 (partsOf st c) (ix3 0 (x 1) (x 2))
  refine congrArg _ (funext fun a => ?_)
  match a with
  | 0 => exact Fin.ext (by have h : (x 0).val < 1 := (x 0).isLt; show (x 0).val = 0; omega)
  | 1 => rfl
  | 2 => rfl

/-! ## The stretches -/

/-- What every stretch runs under: the records, the levels, and what is still owed. -/
def env (c : Dev nD) (O : CellTallies nD τ sig Unit) : sProp 𝕄 := iprop(records st K ∗ levAts L lv ∗ owesW c O)

/-- The rule for an operation at all places. -/
theorem wp_places (c : Dev nD) (f : Fin 31 → P F) (Pre Post : Fin 31 → sProp 𝕄) (O : List (Fin 31) → CellTallies nD τ sig Unit) {α : Type}
    (step : ∀ r rs (k : PUnit → Prog (TpuEff nD τ sig (Elt F) Λ₀ .tc) α) (Q : α → sProp 𝕄),
      iprop(Pre r ∗ env st K c (O (r :: rs))) ⊢ iprop(((Post r ∗ env st K c (O rs)) -∗ WP c (k ⟨⟩) Q) -∗ WP c (f r >>= k) Q))
    (k : PUnit → Prog (TpuEff nD τ sig (Elt F) Λ₀ .tc) α) (Q : α → sProp 𝕄) :
    iprop((bigSep Finset.univ Pre) ∗ env st K c (O places))
      ⊢ iprop((((bigSep Finset.univ Post) ∗ env st K c (O [])) -∗ WP c (k ⟨⟩) Q) -∗ WP c (each places f >>= k) Q) := by
  rw [sepL_places, sepL_places]
  exact wp_each c f Pre Post (fun rs => env st K c (O rs)) step places k Q

/-- The barrier: signal everybody, wait for everybody. -/
def segBar (c : Dev nD) : P F := each places (opBar c) >>= fun _ => semWaitWord barS 31#32

/-- After the barrier the device owns the two pieces of every other device's buffers that only it writes. -/
theorem phase_bar (c : Dev nD) {α : Type} (k : PUnit → Prog (TpuEff nD τ sig (Elt F) Λ₀ .tc) α) (Q : α → sProp 𝕄) :
    iprop(((bigSep Finset.univ fun r => dutyTok ER (barC (fwd c r)) 0 r) ∗ cred (tallyAt (barC c) () 31) ∗ atPos ER (barC c) 0 ∅ 0
        ∗ (∃ f, ((c : Thread nD τ).loc cc0_scratch1) ↦{fullShare} f) ∗ (∃ f, ((c : Thread nD τ).loc cc0_scratch2) ↦{fullShare} f))
        ∗ env st K c (O₀ c))
      ⊢ iprop(((((∃ f, vPts c 0 f) ∗ (∃ f, gPts c c fullShare f) ∗ (bigSep Finset.univ fun r : Fin 31 => iprop(∃ f, vPts (fwd c r) r.succ f))
          ∗ (bigSep Finset.univ fun r => iprop(∃ f, gPts (fwd c r) c fullShare f)) ∗ semVal (barC c) 0)
            ∗ env st K c (owedL (oRs c) places + owedL (oAg c) places)) -∗ WP c (k ⟨⟩) Q) -∗ WP c (segBar c >>= k) Q) := by
  have hgive : iprop((bigSep Finset.univ fun r : Fin 31 => iprop(∃ f, vPts (F := F) c r.succ f)) ∗ (bigSep Finset.univ fun r => iprop(∃ f, gPts (F := F) c (fwd c r) fullShare f)))
      = bigSep Finset.univ fun r => barPay (F := F) (fwd c r) r := by
    rw [← rev_places (fun r : Fin 31 => iprop(∃ f, vPts (F := F) c r.succ f)), ← bigSep_sep']
    exact bigSep_congr fun r _ => by unfold barPay; rw [bwd_fwd]
  have htake : (bigSep Finset.univ fun r => barPay (F := F) c r)
      = iprop((bigSep Finset.univ fun r : Fin 31 => iprop(∃ f, vPts (F := F) (fwd c r) r.succ f)) ∗ (bigSep Finset.univ fun r => iprop(∃ f, gPts (F := F) (fwd c r) c fullShare f))) := by
    rw [← rev_places fun r => barPay (F := F) c r, ← bigSep_sep']
    exact bigSep_congr fun r _ => by unfold barPay; rw [bwd_rev, Fin.rev_rev]
  have hv (f) : (bigSep Finset.univ fun j => vPts (F := F) c j f) ⊢ iprop((∃ f, vPts c 0 f) ∗ bigSep Finset.univ fun r : Fin 31 => iprop(∃ f, vPts c r.succ f)) := by
    rw [split_succ]
    exact BI.sep_mono (exists_intro (Φ := fun f => vPts c 0 f) f) (bigSep_mono fun r _ => exists_intro (Φ := fun f => vPts c r.succ f) f)
  have hg (f) : (bigSep Finset.univ fun j => gPts (F := F) c j fullShare f) ⊢ iprop((∃ f, gPts c c fullShare f) ∗ bigSep Finset.univ fun r => iprop(∃ f, gPts c (fwd c r) fullShare f)) := by
    rw [split_fwd c]
    exact BI.sep_mono (exists_intro (Φ := fun f => gPts c c fullShare f) f) (bigSep_mono fun r _ => exists_intro (Φ := fun f => gPts c (fwd c r) fullShare f) f)
  have hstep : ∀ r rs (k : PUnit → Prog (TpuEff nD τ sig (Elt F) Λ₀ .tc) α) (Q : α → sProp 𝕄),
      iprop((dutyTok ER (barC (fwd c r)) 0 r ∗ barPay (fwd c r) r) ∗ env st K c (owedL (oBar c) (r :: rs) + (owedL (oRs c) places + owedL (oAg c) places)))
        ⊢ iprop(((emp ∗ env st K c (owedL (oBar c) rs + (owedL (oRs c) places + owedL (oAg c) places))) -∗ WP c (k ⟨⟩) Q) -∗ WP c (opBar c r >>= k) Q) := by
    intro r rs k Q
    unfold env
    iintro ⟨Hp, #HR, #Hl, HO⟩ Hk
    iapply (step_bar st K c (owedL (oRs c) places + owedL (oAg c) places) r rs k Q) $$ [Hp HO]
    · isplitl [Hp]; · iexact Hp
      isplitr; · iexact HR
      iexact HO
    iintro ⟨-, -, HO⟩
    iapply Hk
    isplitr; · iempintro
    isplitr; · iexact HR
    isplitr; · iexact Hl
    iexact HO
  unfold segBar
  rw [show ((each places (opBar c) >>= fun _ => semWaitWord barS 31#32) >>= k : Prog (TpuEff nD τ sig (Elt F) Λ₀ .tc) α)
    = each places (opBar c) >>= fun _ => semWaitWord barS 31#32 >>= k from Prog.bind_assoc _ _ _]
  iintro ⟨⟨Ht, Hc, Hat, ⟨%fv, Hv⟩, ⟨%fg, Hg⟩⟩, HE⟩ Hk
  ihave Hv := ((Entails.of_eq (v_whole c fv)).trans (hv fv)) $$ Hv
  ihave Hg := ((Entails.of_eq (g_whole c fullShare fg)).trans (hg fg)) $$ Hg
  icases Hv with ⟨Hv0, Hv⟩
  icases Hg with ⟨Hg0, Hg⟩
  ihave Hpay := (Entails.of_eq hgive) $$ [Hv Hg]
  · isplitl [Hv] <;> iassumption
  iapply (wp_places st K c (opBar c) (fun r => iprop(dutyTok ER (barC (fwd c r)) 0 r ∗ barPay (fwd c r) r)) (fun _ => iprop(emp))
    (fun rs => owedL (oBar c) rs + (owedL (oRs c) places + owedL (oAg c) places)) hstep _ Q) $$ [Ht Hpay HE]
  · isplitl [Ht Hpay]
    · rw [bigSep_sep']
      isplitl [Ht] <;> iassumption
    iexact HE
  rw [owedL_nil, zero_add]
  unfold env
  iintro ⟨-, #HR, #Hl, HO⟩
  iapply (step_barWait st K c k Q) $$ [Hc Hat HO]
  · isplitl [Hc Hat]
    · isplitl [Hc] <;> iassumption
    isplitr; · iexact HR
    isplitr; · iexact Hl
    iexact HO
  iintro ⟨Hpay, Hz, HO⟩
  ihave Hp := (Entails.of_eq htake) $$ Hpay
  icases Hp with ⟨H1, H2⟩
  iapply Hk
  isplitr [HO]
  · isplitl [Hv0]; · iexact Hv0
    isplitl [Hg0]; · iexact Hg0
    isplitl [H1]; · iexact H1
    isplitl [H2]; · iexact H2
    iexact Hz
  isplitr; · iexact HR
  isplitr; · iexact Hl
  iexact HO

/-- The partial product into the sending buffer. -/
def segStage : P F := do
  let x : Vec F S512x512 .f32 ← Prog.lift (.load xM rAll.toLoadRect (View.loadsAt_vmem h_S512x512))
  let w1 : Vec F S512x1024 .f32 ← Prog.lift (.load w1M rW1.toLoadRect (View.loadsAt_vmem h_S512x1024))
  let w2 : Vec F S1024x512 .f32 ← Prog.lift (.load w2M rW2.toLoadRect (View.loadsAt_vmem h_S1024x512))
  let _ : Vec F S512x512 .bf16 ← Prog.lift (.load sM rAll.toLoadRect (View.loadsAt_vmem h_S512x512))
  Prog.lift (.store sM rAll (k0_pay2 (k0_pay1 x w1 w2)) Finset.univ (View.stores_vmem h_S512x512 ((Memref.isWhole_whole cc0_scratch0).storeExact_slice rfl _ packedbf16_S512x512_S512x512_0_0) (fun _ => rfl)) (.inl rfl))

/-- After the first products the sending buffer holds the device's partial product. -/
theorem phase_stage (c : Dev nD) (X : (cc0_stg0_0 : Ref sig .tc).ty.Contents (Elt F)) (W1 : (cc0_stg1_0 : Ref sig .tc).ty.Contents (Elt F))
    (W2 : (cc0_stg2_0 : Ref sig .tc).ty.Contents (Elt F)) {α : Type} (k : PUnit → Prog (TpuEff nD τ sig (Elt F) Λ₀ .tc) α) (Q : α → sProp 𝕄) :
    iprop((((c : Thread nD τ).loc cc0_stg0_0) ↦{fullShare} X) ∗ (((c : Thread nD τ).loc cc0_stg1_0) ↦{fullShare} W1) ∗ (((c : Thread nD τ).loc cc0_stg2_0) ↦{fullShare} W2)
        ∗ (∃ f, ((c : Thread nD τ).loc cc0_scratch0) ↦{fullShare} f))
      ⊢ iprop((((((c : Thread nD τ).loc cc0_stg0_0) ↦{fullShare} X) ∗ (((c : Thread nD τ).loc cc0_stg1_0) ↦{fullShare} W1) ∗ (((c : Thread nD τ).loc cc0_stg2_0) ↦{fullShare} W2)
        ∗ (((c : Thread nD τ).loc cc0_scratch0) ↦{fullShare} (k0_pay2 (k0_pay1 X W1 W2) : (cc0_scratch0 : Ref sig .tc).ty.Contents (Elt F)))) -∗ WP c (k ⟨⟩) Q) -∗ WP c (segStage >>= k) Q) := by
  have hx : xM.view.readAt (Elt F) rAll.toLoadRect X = X := Memref.readAt_unit_zero (Elt F) cc0_stg0_0 zero2 _ X
  have hw1 : w1M.view.readAt (Elt F) rW1.toLoadRect W1 = W1 := Memref.readAt_unit_zero (Elt F) cc0_stg1_0 zero2 _ W1
  have hw2 : w2M.view.readAt (Elt F) rW2.toLoadRect W2 = W2 := Memref.readAt_unit_zero (Elt F) cc0_stg2_0 zero2 _ W2
  have hs (f w) : (sM.access rAll).write (Elt F) f w Finset.univ = w := Memref.write_access_unit_zero_univ (Elt F) cc0_scratch0 zero2 _ f w
  unfold segStage
  simp only [Prog.lift, Prog.bind_op, Prog.bind_ret]
  iintro ⟨Hx, H1, H2, ⟨%f, Hs⟩⟩ Hk
  iapply (wp_load 𝒱₀ (c : Thread nD τ) none Set.univ (m := xM) (Finset.subset_univ _)) $$ Hx; iintro Hx
  rw [hx]
  iapply (wp_load 𝒱₀ (c : Thread nD τ) none Set.univ (m := w1M) (Finset.subset_univ _)) $$ H1; iintro H1
  rw [hw1]
  iapply (wp_load 𝒱₀ (c : Thread nD τ) none Set.univ (m := w2M) (Finset.subset_univ _)) $$ H2; iintro H2
  rw [hw2]
  iapply (wp_load 𝒱₀ (c : Thread nD τ) none Set.univ (m := sM) (Finset.subset_univ _)) $$ Hs; iintro Hs
  iapply (wp_store 𝒱₀ (c : Thread nD τ) none Set.univ (m := sM) (r := rAll) (Mk := Finset.univ) (Finset.subset_univ _)) $$ Hs; iintro Hs
  rw [hs]
  iapply Hk
  isplitl [Hx]; · iexact Hx
  isplitl [H1]; · iexact H1
  isplitl [H2]; · iexact H2
  iexact Hs

/-- The scatter phase's copies: the own chunk stays. -/
theorem phase_rs (c : Dev nD) {α : Type} (k : PUnit → Prog (TpuEff nD τ sig (Elt F) Λ₀ .tc) α) (Q : α → sProp 𝕄) :
    iprop(((bigSep Finset.univ fun r : Fin 31 => dutyTok ER (arrC c 0 r.succ) 0 0) ∗ (bigSep Finset.univ fun r : Fin 31 => dutyTok ER (arrC (fwd c r) 1 r.succ) 0 0)
        ∗ (((c : Thread nD τ).loc cc0_scratch0) ↦{fullShare} st c) ∗ (bigSep Finset.univ fun r : Fin 31 => iprop(∃ f, vPts (fwd c r) r.succ f)))
        ∗ env st K c (owedL (oRs c) places + owedL (oAg c) places))
      ⊢ iprop(((sPts c c (st c) ∗ (bigSep Finset.univ fun r : Fin 31 => cred (tallyAt (arrC c 0 r.succ) () N)))
            ∗ env st K c (owedL (oAg c) places) -∗ WP c (k ⟨⟩) Q) -∗ WP c (each places (opRs c) >>= k) Q) := by
  have hstep : ∀ r rs (k : PUnit → Prog (TpuEff nD τ sig (Elt F) Λ₀ .tc) α) (Q : α → sProp 𝕄),
      iprop((dutyTok ER (arrC c 0 r.succ) 0 0 ∗ dutyTok ER (arrC (fwd c r) 1 r.succ) 0 0 ∗ sPts c (fwd c r) (st c) ∗ (∃ f, vPts (fwd c r) r.succ f))
          ∗ env st K c (owedL (oRs c) (r :: rs) + owedL (oAg c) places))
        ⊢ iprop(((cred (tallyAt (arrC c 0 r.succ) () N) ∗ env st K c (owedL (oRs c) rs + owedL (oAg c) places)) -∗ WP c (k ⟨⟩) Q) -∗ WP c (opRs c r >>= k) Q) := by
    intro r rs k Q
    unfold env
    iintro ⟨Hp, #HR, #Hl, HO⟩ Hk
    iapply (step_rs st K c (owedL (oAg c) places) r rs k Q) $$ [Hp HO]
    · isplitl [Hp]; · iexact Hp
      isplitr; · iexact HR
      iexact HO
    iintro ⟨Hc, -, HO⟩
    iapply Hk
    isplitl [Hc]; · iexact Hc
    isplitr; · iexact HR
    isplitr; · iexact Hl
    iexact HO
  iintro ⟨⟨Ht, Ht', Hs, Hv⟩, HE⟩ Hk
  ihave Hs := (Entails.of_eq ((s_whole c (st c)).trans (split_fwd c _))) $$ Hs
  icases Hs with ⟨Hs0, Hs⟩
  iapply (wp_places st K c (opRs c) _ _ (fun rs => owedL (oRs c) rs + owedL (oAg c) places) hstep k Q) $$ [Ht Ht' Hs Hv HE]
  · isplitr [HE]
    · rw [bigSep_sep', bigSep_sep', bigSep_sep']
      isplitl [Ht]; · iexact Ht
      isplitl [Ht']; · iexact Ht'
      isplitl [Hs]; · iexact Hs
      iexact Hv
    iexact HE
  rw [owedL_nil, zero_add]
  iintro ⟨Hc, HE⟩
  iapply Hk
  isplitr [HE]
  · isplitl [Hs0]; · iexact Hs0
    iexact Hc
  iexact HE

/-- Waits on a counter of an array at every place, under an unchanging debt. -/
theorem phase_wait (c : Dev nD) (a : Fin 4) (j : Fin 31 → Dev nD) (hu : ∀ r, Used c a (j r)) (O : CellTallies nD τ sig Unit)
    (hmay : ∀ r, (levAts L lv : sProp 𝕄) ⊢ MayWait (c : Thread nD τ) (csem (.inr (a, j r))) () O) (f : Fin 31 → P F) {α : Type}
    (hf : ∀ r (k : PUnit → Prog (TpuEff nD τ sig (Elt F) Λ₀ .tc) α) (Q : α → sProp 𝕄),
      iprop((cred (tallyAt (arrC c a (j r)) () N) ∗ atPos ER (arrC c a (j r)) 0 ∅ 0) ∗ env st K c O)
        ⊢ iprop((((payOf st c (.inr (a, j r)) 0 ∗ semVal (arrC c a (j r)) 0) ∗ env st K c O) -∗ WP c (k ⟨⟩) Q) -∗ WP c (f r >>= k) Q))
    (k : PUnit → Prog (TpuEff nD τ sig (Elt F) Λ₀ .tc) α) (Q : α → sProp 𝕄) :
    iprop(((bigSep Finset.univ fun r => cred (tallyAt (arrC c a (j r)) () N)) ∗ (bigSep Finset.univ fun r => atPos ER (arrC c a (j r)) 0 ∅ 0)) ∗ env st K c O)
      ⊢ iprop(((((bigSep Finset.univ fun r => payOf st c (.inr (a, j r)) 0) ∗ (bigSep Finset.univ fun r => semVal (arrC c a (j r)) 0)) ∗ env st K c O) -∗ WP c (k ⟨⟩) Q)
          -∗ WP c (each places f >>= k) Q) := by
  rw [← bigSep_sep', ← bigSep_sep']
  exact wp_places st K c f _ _ (fun _ => O) (fun r _ k Q => hf r k Q) k Q

/-- The own part kept, the other parts awaited. -/
def segParts (c : Dev nD) : P F := do
  let own : Vec F S16x512 .bf16 ← Prog.lift (.load sM (rRows c).toLoadRect (View.loadsAt_vmem h_S16x512))
  let _ : Vec F S1x16x512 .bf16 ← Prog.lift (.load vM rSlot0.toLoadRect (View.loadsAt_vmem h_S1x16x512))
  Prog.lift (.store vM rSlot0 (k0_pay3 own) Finset.univ (View.stores_vmem h_S1x16x512 ((Memref.isWhole_whole cc0_scratch1).storeExact_slice rfl _ packedbf16_S32x16x512_S1x16x512_0_0_0) (fun _ => rfl)) (.inl rfl))
  each places opRsWait

/-- Once all parts are awaited the receiving buffer holds the thirty-two parts of the device's chunk. -/
theorem phase_parts (c : Dev nD) {α : Type} (k : PUnit → Prog (TpuEff nD τ sig (Elt F) Λ₀ .tc) α) (Q : α → sProp 𝕄) :
    iprop((sPts c c (st c) ∗ (∃ f, vPts c 0 f) ∗ (bigSep Finset.univ fun r : Fin 31 => cred (tallyAt (arrC c 1 r.succ) () N))
        ∗ (bigSep Finset.univ fun r : Fin 31 => atPos ER (arrC c 1 r.succ) 0 ∅ 0)) ∗ env st K c (owedL (oAg c) places))
      ⊢ iprop(((sPts c c (st c) ∗ (((c : Thread nD τ).loc cc0_scratch1) ↦{fullShare} (partsOf st c : (cc0_scratch1 : Ref sig .tc).ty.Contents (Elt F)))
          ∗ (bigSep Finset.univ fun r : Fin 31 => semVal (arrC c 1 r.succ) 0)) ∗ env st K c (owedL (oAg c) places) -∗ WP c (k ⟨⟩) Q) -∗ WP c (segParts c >>= k) Q) := by
  have hst (f) : (((c : Thread nD τ).loc cc0_scratch1) ↦[slotSet 0]{fullShare} (vM.access rSlot0).write (Elt F) f (k0_pay3 (sM.view.readAt (Elt F) (rRows c).toLoadRect (st c))) Finset.univ : sProp 𝕄)
      = vPts c 0 (partsOf st c) := by
    unfold vPts; exact pointsTo_congr (own_part_stored st c f)
  have hall : iprop(vPts c 0 (partsOf st c) ∗ bigSep Finset.univ fun r : Fin 31 => payOf st c (.inr (1, r.succ)) 0)
      = (((c : Thread nD τ).loc cc0_scratch1) ↦{fullShare} (partsOf st c : (cc0_scratch1 : Ref sig .tc).ty.Contents (Elt F)) : sProp 𝕄) := by
    rw [v_whole, split_succ]; rfl
  unfold segParts
  simp only [Prog.lift, Prog.bind_op, Prog.bind_ret]
  iintro ⟨⟨Hs, ⟨%f, Hv⟩, Hc, Hat⟩, HE⟩ Hk
  unfold sPts vPts
  iapply (wp_load 𝒱₀ (c : Thread nD τ) none Set.univ (m := sM) (own_rows_sub c)) $$ Hs; iintro Hs
  iapply (wp_load 𝒱₀ (c : Thread nD τ) none Set.univ (m := vM) slot0_sub) $$ Hv; iintro Hv
  iapply (wp_store 𝒱₀ (c : Thread nD τ) none Set.univ (m := vM) (r := rSlot0) (Mk := Finset.univ) slot0_acc) $$ Hv; iintro Hv
  ihave Hv := (Entails.of_eq (hst f)) $$ Hv
  iapply (phase_wait st K c 1 (fun r => r.succ) (used_succ c (by decide)) (owedL (oAg c) places) (fun r => mayWait_part c r.succ) opRsWait
    (fun r k Q => step_wait st K c 1 r.succ (used_succ c (by decide) r) _ (mayWait_part c r.succ) (semAt cc0_scratch4 r) (semAt4 r) rowsFirst (partAt r) rowsFirst_words (partAt_words r) (credit_part r) k Q)
    k Q) $$ [Hc Hat HE]
  · isplitr [HE]
    · isplitl [Hc] <;> iassumption
    iexact HE
  iintro ⟨⟨Hp, Hz⟩, HE⟩
  iapply Hk
  isplitr [HE]
  · isplitl [Hs]; · iexact Hs
    isplitl [Hv Hp]
    · iapply (Entails.of_eq hall)
      isplitl [Hv] <;> iassumption
    iexact Hz
  iexact HE

/-- The parts summed, into the own slot of the gathering buffer. -/
def segSum (c : Dev nD) : P F := do
  let parts : Vec F S32x16x512 .bf16 ← Prog.lift (.load vM rSlots.toLoadRect (View.loadsAt_vmem h_S32x16x512))
  let _ : Vec F S1x16x512 .bf16 ← Prog.lift (.load gM (rSlot c).toLoadRect (View.loadsAt_vmem h_S1x16x512))
  Prog.lift (.store gM (rSlot c) (k0_pay4 parts) Finset.univ (View.stores_vmem h_S1x16x512 ((Memref.isWhole_whole cc0_scratch2).storeExact_slice rfl _ (k0_off3_packedbf16 c)) (fun _ => rfl)) (.inl rfl))

/-- After the sum the device's own slot of the gathering buffer holds its summed chunk. -/
theorem phase_sum (c : Dev nD) {α : Type} (k : PUnit → Prog (TpuEff nD τ sig (Elt F) Λ₀ .tc) α) (Q : α → sProp 𝕄) :
    iprop((((c : Thread nD τ).loc cc0_scratch1) ↦{fullShare} (partsOf st c : (cc0_scratch1 : Ref sig .tc).ty.Contents (Elt F))) ∗ (∃ f, gPts c c fullShare f))
      ⊢ iprop((((((c : Thread nD τ).loc cc0_scratch1) ↦{fullShare} (partsOf st c : (cc0_scratch1 : Ref sig .tc).ty.Contents (Elt F))) ∗ gPts c c fullShare (gathered st)) -∗ WP c (k ⟨⟩) Q)
          -∗ WP c (segSum c >>= k) Q) := by
  have hp : vM.view.readAt (Elt F) rSlots.toLoadRect (partsOf st c) = partsOf st c := Memref.readAt_unit_zero (Elt F) cc0_scratch1 zero3 _ (partsOf st c)
  have hst (f) : (((c : Thread nD τ).loc cc0_scratch2) ↦[slotSet c]{fullShare} (gM.access (rSlot c)).write (Elt F) f (k0_pay4 (partsOf st c)) Finset.univ : sProp 𝕄)
      = gPts c c fullShare (gathered st) := by
    unfold gPts; exact pointsTo_congr (sum_stored st c f)
  unfold segSum
  simp only [Prog.lift, Prog.bind_op, Prog.bind_ret]
  iintro ⟨Hv, ⟨%f, Hg⟩⟩ Hk
  iapply (wp_load 𝒱₀ (c : Thread nD τ) none Set.univ (m := vM) (Finset.subset_univ _)) $$ Hv; iintro Hv
  rw [hp]
  unfold gPts
  iapply (wp_load 𝒱₀ (c : Thread nD τ) none Set.univ (m := gM) (slot_sub c)) $$ Hg; iintro Hg
  iapply (wp_store 𝒱₀ (c : Thread nD τ) none Set.univ (m := gM) (r := rSlot c) (Mk := Finset.univ) (slot_acc c)) $$ Hg; iintro Hg
  ihave Hg := (Entails.of_eq (hst f)) $$ Hg
  iapply Hk
  isplitl [Hv]; · iexact Hv
  unfold gPts; iexact Hg

/-- The gather phase: the own sum to everybody, the other sums awaited. -/
def segGather (c : Dev nD) : P F := each places (opAg c) >>= fun _ => each places (opAgWait c)

omit [FloatOps F] in
/-- A device that owes nothing may wait on any semaphore. -/
theorem mayWait_free (c : Dev nD) (sm : SemLoc sig) : (levAts L lv : sProp 𝕄) ⊢ MayWait (c : Thread nD τ) sm () 0 := by
  rw [MayWait_zero]; iintro -; iempintro

/-- After the gather phase the device holds every summed chunk, and owes nothing more. -/
theorem phase_gather (c : Dev nD) {α : Type} (k : PUnit → Prog (TpuEff nD τ sig (Elt F) Λ₀ .tc) α) (Q : α → sProp 𝕄) :
    iprop(((bigSep Finset.univ fun r : Fin 31 => dutyTok ER (arrC c 2 r.succ) 0 0) ∗ (bigSep Finset.univ fun r : Fin 31 => dutyTok ER (arrC (fwd c r) 3 c) 0 0)
        ∗ gPts c c fullShare (gathered st) ∗ (bigSep Finset.univ fun r : Fin 31 => iprop(∃ f, gPts (fwd c r) c fullShare f))
        ∗ (bigSep Finset.univ fun r => cred (tallyAt (arrC c 3 (bwd c r)) () N)) ∗ (bigSep Finset.univ fun r => atPos ER (arrC c 3 (bwd c r)) 0 ∅ 0))
        ∗ env st K c (owedL (oAg c) places))
      ⊢ iprop((((bigSep Finset.univ fun r : Fin 31 => cred (tallyAt (arrC c 2 r.succ) () N)) ∗ gPts c c kept (gathered st)
          ∗ (bigSep Finset.univ fun r => gPts c (bwd c r) fullShare (gathered st)) ∗ (bigSep Finset.univ fun r => semVal (arrC c 3 (bwd c r)) 0))
            ∗ env st K c 0 -∗ WP c (k ⟨⟩) Q) -∗ WP c (segGather c >>= k) Q) := by
  have hstep : ∀ r rs (k : PUnit → Prog (TpuEff nD τ sig (Elt F) Λ₀ .tc) α) (Q : α → sProp 𝕄),
      iprop((dutyTok ER (arrC c 2 r.succ) 0 0 ∗ dutyTok ER (arrC (fwd c r) 3 c) 0 0 ∗ gPts c c (lent r.succ) (gathered st) ∗ (∃ f, gPts (fwd c r) c fullShare f))
          ∗ env st K c (owedL (oAg c) (r :: rs) + 0))
        ⊢ iprop(((cred (tallyAt (arrC c 2 r.succ) () N) ∗ env st K c (owedL (oAg c) rs + 0)) -∗ WP c (k ⟨⟩) Q) -∗ WP c (opAg c r >>= k) Q) := by
    intro r rs k Q
    unfold env
    iintro ⟨Hp, #HR, #Hl, HO⟩ Hk
    iapply (step_ag st K c r rs k Q) $$ [Hp HO]
    · isplitl [Hp]; · iexact Hp
      isplitr; · iexact HR
      iexact HO
    iintro ⟨Hc, -, HO⟩
    iapply Hk
    isplitl [Hc]; · iexact Hc
    isplitr; · iexact HR
    isplitr; · iexact Hl
    iexact HO
  unfold segGather
  rw [show ((each places (opAg c) >>= fun _ => each places (opAgWait c)) >>= k : Prog (TpuEff nD τ sig (Elt F) Λ₀ .tc) α)
    = each places (opAg c) >>= fun _ => each places (opAgWait c) >>= k from Prog.bind_assoc _ _ _]
  iintro ⟨⟨Ht, Ht', Hg, Hr, Hc, Hat⟩, HE⟩ Hk
  ihave Hg := (Entails.of_eq (g_shares c c (gathered st))) $$ Hg
  icases Hg with ⟨Hg0, Hg⟩
  rw [← add_zero (owedL (oAg c) places)]
  iapply (wp_places st K c (opAg c) _ _ (fun rs => owedL (oAg c) rs + 0) hstep _ Q) $$ [Ht Ht' Hg Hr HE]
  · isplitr [HE]
    · rw [bigSep_sep', bigSep_sep', bigSep_sep']
      isplitl [Ht]; · iexact Ht
      isplitl [Ht']; · iexact Ht'
      isplitl [Hg]; · iexact Hg
      iexact Hr
    iexact HE
  rw [owedL_nil, zero_add]
  iintro ⟨Hc2, HE⟩
  iapply (phase_wait st K c 3 (bwd c) (fun r => used_from c _ (bwd_ne c r)) 0 (fun r => mayWait_free c _) (opAgWait c)
    (fun r k Q => step_wait st K c 3 (bwd c r) (used_from c _ (bwd_ne c r)) _ (mayWait_free c _) (semFrom c r) (semFrom_eq c r) rowsFirst (chunkFrom c r) rowsFirst_words (chunkFrom_words c r) (credit_from c r) k Q)
    k Q) $$ [Hc Hat HE]
  · isplitr [HE]
    · isplitl [Hc] <;> iassumption
    iexact HE
  iintro ⟨⟨Hp, Hz⟩, HE⟩
  iapply Hk
  isplitr [HE]
  · isplitl [Hc2]; · iexact Hc2
    isplitl [Hg0]; · iexact Hg0
    isplitl [Hp]; · iexact Hp
    iexact Hz
  iexact HE

/-- The gathered sums into the result. -/
def segOut : P F := do
  let sums : Vec F S32x16x512 .bf16 ← Prog.lift (.load gM rSlots.toLoadRect (View.loadsAt_vmem h_S32x16x512))
  let _ : Vec F S512x512 .f32 ← Prog.lift (.load oM rAll.toLoadRect (View.loadsAt_vmem h_S512x512))
  Prog.lift (.store oM rAll (k0_pay5 sums) Finset.univ (View.stores_vmem_bits_univ h_S512x512 rfl) (.inl rfl))

/-- The result the device stores is read off the gathered chunks. -/
theorem phase_out (c : Dev nD) {α : Type} (k : PUnit → Prog (TpuEff nD τ sig (Elt F) Λ₀ .tc) α) (Q : α → sProp 𝕄) :
    iprop(gPts c c kept (gathered st) ∗ (bigSep Finset.univ fun r => gPts c (bwd c r) fullShare (gathered st)) ∗ (∃ f, ((c : Thread nD τ).loc cc0_stg3_0) ↦{fullShare} f))
      ⊢ iprop(((gPts c c kept (gathered st) ∗ (bigSep Finset.univ fun r => gPts c (bwd c r) fullShare (gathered st))
          ∗ (((c : Thread nD τ).loc cc0_stg3_0) ↦{fullShare} (k0_pay5 (gathered st) : (cc0_stg3_0 : Ref sig .tc).ty.Contents (Elt F)))) -∗ WP c (k ⟨⟩) Q)
          -∗ WP c (segOut >>= k) Q) := by
  have hg : gM.view.readAt (Elt F) rSlots.toLoadRect (gathered st) = gathered st := Memref.readAt_unit_zero (Elt F) cc0_scratch2 zero3 _ (gathered st)
  have ho (f w) : (oM.access rAll).write (Elt F) f w Finset.univ = w := Memref.write_access_unit_zero_univ (Elt F) cc0_stg3_0 zero2 _ f w
  have hsp : (bigSep Finset.univ fun r => gPts (F := F) c (bwd c r) fullShare (gathered st))
      = iprop((bigSep Finset.univ fun r => gPts c (bwd c r) kept (gathered st)) ∗ bigSep Finset.univ fun r => bigSep Finset.univ fun r' : Fin 31 => gPts c (bwd c r) (lent r'.succ) (gathered st)) := by
    rw [← bigSep_sep']; exact bigSep_congr fun r _ => g_shares c (bwd c r) (gathered st)
  have hall : iprop(gPts (F := F) c c kept (gathered st) ∗ bigSep Finset.univ fun r => gPts c (bwd c r) kept (gathered st))
      = (((c : Thread nD τ).loc cc0_scratch2) ↦{kept} gathered st : sProp 𝕄) := by
    rw [g_whole, split_bwd c]
  unfold segOut
  simp only [Prog.lift, Prog.bind_op, Prog.bind_ret]
  rw [hsp]
  iintro ⟨Hg0, ⟨Hg, Hl⟩, ⟨%f, Ho⟩⟩ Hk
  ihave Hw := (Entails.of_eq hall) $$ [Hg0 Hg]
  · isplitl [Hg0] <;> iassumption
  iapply (wp_load 𝒱₀ (c : Thread nD τ) none Set.univ (m := gM) (Finset.subset_univ _)) $$ Hw; iintro Hw
  rw [hg]
  iapply (wp_load 𝒱₀ (c : Thread nD τ) none Set.univ (m := oM) (Finset.subset_univ _)) $$ Ho; iintro Ho
  iapply (wp_store 𝒱₀ (c : Thread nD τ) none Set.univ (m := oM) (r := rAll) (Mk := Finset.univ) (Finset.subset_univ _)) $$ Ho; iintro Ho
  rw [ho]
  ihave Hw := (Entails.of_eq hall.symm) $$ Hw
  icases Hw with ⟨Hg0, Hg⟩
  iapply Hk
  isplitl [Hg0]; · iexact Hg0
  isplitr [Ho]
  · isplitl [Hg] <;> iassumption
  iexact Ho

/-- All copies have left. -/
def segLeft (c : Dev nD) : P F := each places (opRsLeft c) >>= fun _ => each places (opAgLeft c)

/-- Once all copies have left, the buffers they read are whole again and their counters are at zero. -/
theorem phase_left (c : Dev nD) {α : Type} (k : PUnit → Prog (TpuEff nD τ sig (Elt F) Λ₀ .tc) α) (Q : α → sProp 𝕄) :
    iprop(((bigSep Finset.univ fun r : Fin 31 => cred (tallyAt (arrC c 0 r.succ) () N)) ∗ (bigSep Finset.univ fun r : Fin 31 => atPos ER (arrC c 0 r.succ) 0 ∅ 0)
        ∗ (bigSep Finset.univ fun r : Fin 31 => cred (tallyAt (arrC c 2 r.succ) () N)) ∗ (bigSep Finset.univ fun r : Fin 31 => atPos ER (arrC c 2 r.succ) 0 ∅ 0)
        ∗ sPts c c (st c) ∗ gPts c c kept (gathered st) ∗ (bigSep Finset.univ fun r => gPts c (bwd c r) fullShare (gathered st)))
        ∗ env st K c 0)
      ⊢ iprop((((∃ f, ((c : Thread nD τ).loc cc0_scratch0) ↦{fullShare} f) ∗ (∃ f, ((c : Thread nD τ).loc cc0_scratch2) ↦{fullShare} f)
          ∗ (bigSep Finset.univ fun r : Fin 31 => semVal (arrC c 0 r.succ) 0) ∗ (bigSep Finset.univ fun r : Fin 31 => semVal (arrC c 2 r.succ) 0))
            ∗ env st K c 0 -∗ WP c (k ⟨⟩) Q) -∗ WP c (segLeft c >>= k) Q) := by
  have hs : iprop(sPts c c (st c) ∗ bigSep Finset.univ fun r : Fin 31 => payOf st c (.inr (0, r.succ)) 0)
      = (((c : Thread nD τ).loc cc0_scratch0) ↦{fullShare} st c : sProp 𝕄) := by
    rw [s_whole, split_fwd c]; rfl
  have hg0 : iprop(gPts c c kept (gathered st) ∗ bigSep Finset.univ fun r : Fin 31 => payOf st c (.inr (2, r.succ)) 0) = gPts (F := F) c c fullShare (gathered st) :=
    (g_shares c c (gathered st)).symm
  have hg : iprop(gPts c c fullShare (gathered st) ∗ bigSep Finset.univ fun r => gPts (F := F) c (bwd c r) fullShare (gathered st))
      = (((c : Thread nD τ).loc cc0_scratch2) ↦{fullShare} gathered st : sProp 𝕄) := by
    rw [g_whole, split_bwd c]
  unfold segLeft
  rw [show ((each places (opRsLeft c) >>= fun _ => each places (opAgLeft c)) >>= k : Prog (TpuEff nD τ sig (Elt F) Λ₀ .tc) α)
    = each places (opRsLeft c) >>= fun _ => each places (opAgLeft c) >>= k from Prog.bind_assoc _ _ _]
  iintro ⟨⟨Hc, Hat, Hc', Hat', Hs, Hg0, Hg⟩, HE⟩ Hk
  iapply (phase_wait st K c 0 (fun r => r.succ) (used_succ c (by decide)) 0 (fun r => mayWait_free c _) (opRsLeft c)
    (fun r k Q => step_wait st K c 0 r.succ (used_succ c (by decide) r) _ (mayWait_free c _) (semAt cc0_scratch3 r) (semAt3 r) (partAt r) (rowsTo c r) (partAt_words r) (rowsTo_words c r) (credit_rows c r) k Q)
    _ Q) $$ [Hc Hat HE]
  · isplitr [HE]
    · isplitl [Hc] <;> iassumption
    iexact HE
  iintro ⟨⟨Hp, Hz⟩, HE⟩
  iapply (phase_wait st K c 2 (fun r => r.succ) (used_succ c (by decide)) 0 (fun r => mayWait_free c _) (opAgLeft c)
    (fun r k Q => step_wait st K c 2 r.succ (used_succ c (by decide) r) _ (mayWait_free c _) (semAt cc0_scratch5 r) (semAt5 r) (chunkOwn c) (chunkOwn c) (chunkOwn_words c) (chunkOwn_words c) (credit_own c) k Q)
    k Q) $$ [Hc' Hat' HE]
  · isplitr [HE]
    · isplitl [Hc'] <;> iassumption
    iexact HE
  iintro ⟨⟨Hp', Hz'⟩, HE⟩
  iapply Hk
  isplitr [HE]
  · isplitl [Hs Hp]
    · iexists (st c)
      iapply (Entails.of_eq hs)
      isplitl [Hs] <;> iassumption
    isplitl [Hg0 Hg Hp']
    · iexists (gathered st)
      iapply (Entails.of_eq hg)
      isplitr [Hg]
      · iapply (Entails.of_eq hg0)
        isplitl [Hg0] <;> iassumption
      iexact Hg
    isplitl [Hz] <;> iassumption
  iexact HE

end Cert.Exchange

end
-- ==== Proof.Body.lean ====
/- The whole body: from its counters, tokens and buffers to its counters at zero and the result in place. -/
module

public import proofs.«01_k».proof.Proof.Phases

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (st : Dev nD → (cc0_scratch0 : Ref sig .tc).ty.Contents (Elt F))
variable (K : Dev nD × CK → ℕ)

/-! ## What a device starts with -/

/-- The tokens of the contributions device `c` makes. -/
def payToks (c : Dev nD) : sProp 𝕄 :=
  iprop((bigSep Finset.univ fun r => dutyTok ER (barC (fwd c r)) 0 r)
    ∗ (bigSep Finset.univ fun r : Fin 31 => dutyTok ER (arrC c 0 r.succ) 0 0)
    ∗ (bigSep Finset.univ fun r : Fin 31 => dutyTok ER (arrC (fwd c r) 1 r.succ) 0 0)
    ∗ (bigSep Finset.univ fun r : Fin 31 => dutyTok ER (arrC c 2 r.succ) 0 0)
    ∗ (bigSep Finset.univ fun r : Fin 31 => dutyTok ER (arrC (fwd c r) 3 c) 0 0))

/-- Device `c`'s positions at its counters, with those tokens. -/
def linear (c : Dev nD) : sProp 𝕄 := iprop((bigSep Finset.univ fun k : CK => atPos ER (cellAt c k) 0 ∅ 0) ∗ payToks c)

/-- What the other devices owe to device `c`'s counters. -/
def creds (c : Dev nD) : sProp 𝕄 :=
  iprop(cred (tallyAt (barC c) () 31) ∗ (bigSep Finset.univ fun r : Fin 31 => cred (tallyAt (arrC c 1 r.succ) () N))
    ∗ (bigSep Finset.univ fun r => cred (tallyAt (arrC c 3 (bwd c r)) () N)))

/-- The three scratch buffers, whatever they hold. -/
def bufs (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- Every counter of device `c` at zero. -/
def zeros (c : Dev nD) : sProp 𝕄 := bigSep Finset.univ fun k : CK => semVal (cellAt c k) 0

omit [FloatOps F] in
/-- Everything over a device's counters: the barrier, then array by array with the unused slot first. -/
theorem counters_split (c : Dev nD) (Φ : CK → sProp 𝕄) : bigSep Finset.univ Φ
    = iprop(Φ (.inl ()) ∗ (Φ (.inr (0, 0)) ∗ bigSep Finset.univ fun r : Fin 31 => Φ (.inr (0, r.succ)))
      ∗ (Φ (.inr (1, 0)) ∗ bigSep Finset.univ fun r : Fin 31 => Φ (.inr (1, r.succ)))
      ∗ (Φ (.inr (2, 0)) ∗ bigSep Finset.univ fun r : Fin 31 => Φ (.inr (2, r.succ)))
      ∗ (Φ (.inr (3, c)) ∗ bigSep Finset.univ fun r : Fin 31 => Φ (.inr (3, bwd c r)))) := by
  rw [bigSep_univ_sum, bigSep_univ_eq_bigSepL [()] (by decide) (by decide), bigSep_univ_prod,
    bigSep_univ_eq_bigSepL [0, 1, 2, 3] (by decide) (by decide)]
  simp only [bigSepL_cons_cons, bigSepL_singleton]
  rw [split_succ fun j => Φ (.inr (0, j)), split_succ fun j => Φ (.inr (1, j)), split_succ fun j => Φ (.inr (2, j)), split_bwd c fun j => Φ (.inr (3, j))]
  rfl

/-! ## The body -/

/-- The body as its stretches in order. -/
theorem loops_eq : (loops : P F) = Prog.lift .deviceId >>= fun c => segBar c >>= fun _ => segStage >>= fun _ => each places (opRs c) >>= fun _ =>
    segParts c >>= fun _ => segSum c >>= fun _ => segGather c >>= fun _ => segOut >>= fun _ => segLeft c >>= fun u => pure u := by
  unfold loops segBar segStage segParts segSum segGather segOut segLeft
  simp only [Prog.bind_assoc, Prog.bind_pure]

/-- A counter no copy uses is at zero again. -/
theorem close_unused (c : Dev nD) (a : Fin 4) (j : Dev nD) (h : ¬ Used c a j) :
    iprop(records st K ∗ atPos ER (arrC c a j) 0 ∅ 0) ⊢ (|={Set.univ}=> semVal (arrC c a j) 0 : sProp 𝕄) := by
  iintro ⟨#HR, Hat⟩
  imod (Rounds.cell_close ER (sched st) (Set.mem_univ (K (c, .inr (a, j)))) (fun h => h) (R := 0) (duties_unused st c a j h)) $$ [Hat] with Hz
  · isplitr; · iapply (rec_inv st K c (.inr (a, j))); iexact HR
    iexact Hat
  imodintro
  iexact Hz

set_option maxHeartbeats 1000000 in
/-- Device `c`'s body, when every device `p` sends `st p`. -/
theorem body_run (c : Dev nD) (X : (cc0_stg0_0 : Ref sig .tc).ty.Contents (Elt F)) (W1 : (cc0_stg1_0 : Ref sig .tc).ty.Contents (Elt F))
    (W2 : (cc0_stg2_0 : Ref sig .tc).ty.Contents (Elt F)) (hst : st c = k0_pay2 (k0_pay1 X W1 W2)) (Kt : PUnit → sProp 𝕄) :
    iprop((linear c ∗ creds c ∗ bufs c) ∗ env st K c (O₀ c)
        ∗ (((c : Thread nD τ).loc cc0_stg0_0) ↦{fullShare} X) ∗ (((c : Thread nD τ).loc cc0_stg1_0) ↦{fullShare} W1) ∗ (((c : Thread nD τ).loc cc0_stg2_0) ↦{fullShare} W2)
        ∗ (∃ f, ((c : Thread nD τ).loc cc0_stg3_0) ↦{fullShare} f))
      ⊢ iprop((((bufs c ∗ zeros c) ∗ owesW c 0
        ∗ (((c : Thread nD τ).loc cc0_stg0_0) ↦{fullShare} X) ∗ (((c : Thread nD τ).loc cc0_stg1_0) ↦{fullShare} W1) ∗ (((c : Thread nD τ).loc cc0_stg2_0) ↦{fullShare} W2)
        ∗ (((c : Thread nD τ).loc cc0_stg3_0) ↦{fullShare} (k0_pay5 (gathered st) : (cc0_stg3_0 : Ref sig .tc).ty.Contents (Elt F)))) -∗ Kt ⟨⟩) -∗ WP c loops Kt) := by
  have hu (a : Fin 4) (h : a ≠ 3) : ¬ Used c a 0 := by unfold Used; rw [if_neg h]; exact fun h => h rfl
  have hu3 : ¬ Used c 3 c := by unfold Used; rw [if_pos rfl]; exact fun h => h rfl
  unfold linear zeros payToks creds
  rw [counters_split c fun k => atPos ER (cellAt c k) 0 ∅ 0, counters_split c fun k => semVal (cellAt c k) 0, loops_eq]
  unfold WP
  simp only [Prog.lift, Prog.bind_op, Prog.bind_ret, wp_deviceId]
  unfold bufs
  iintro ⟨⟨⟨⟨Ab, ⟨A00, A0⟩, ⟨A10, A1⟩, ⟨A20, A2⟩, ⟨A3c, A3⟩⟩, Tb, T0, T1, T2, T3⟩, ⟨Cb, C1, C3⟩, Bs, Bv, Bg⟩, HE, Hx, H1, H2, Ho⟩ Hk
  iapply (phase_bar st K c _ Kt) $$ [Tb Cb Ab Bv Bg HE]
  · isplitr [HE]
    · isplitl [Tb]; · iexact Tb
      isplitl [Cb]; · iexact Cb
      isplitl [Ab]; · iexact Ab
      isplitl [Bv] <;> iassumption
    iexact HE
  iintro ⟨⟨Hv0, Hg0, Pv, Pg, Zb⟩, HE⟩
  iapply (phase_stage c X W1 W2 _ Kt) $$ [Hx H1 H2 Bs]
  · isplitl [Hx]; · iexact Hx
    isplitl [H1]; · iexact H1
    isplitl [H2] <;> iassumption
  rw [← hst]
  iintro ⟨Hx, H1, H2, Bs⟩
  iapply (phase_rs st K c _ Kt) $$ [T0 T1 Bs Pv HE]
  · isplitr [HE]
    · isplitl [T0]; · iexact T0
      isplitl [T1]; · iexact T1
      isplitl [Bs] <;> iassumption
    iexact HE
  iintro ⟨⟨Hs, C0⟩, HE⟩
  iapply (phase_parts st K c _ Kt) $$ [Hs Hv0 C1 A1 HE]
  · isplitr [HE]
    · isplitl [Hs]; · iexact Hs
      isplitl [Hv0]; · iexact Hv0
      isplitl [C1] <;> iassumption
    iexact HE
  iintro ⟨⟨Hs, Hv, Z1⟩, HE⟩
  iapply (phase_sum st c _ Kt) $$ [Hv Hg0]
  · isplitl [Hv] <;> iassumption
  iintro ⟨Hv, Hg0⟩
  iapply (phase_gather st K c _ Kt) $$ [T2 T3 Hg0 Pg C3 A3 HE]
  · isplitr [HE]
    · isplitl [T2]; · iexact T2
      isplitl [T3]; · iexact T3
      isplitl [Hg0]; · iexact Hg0
      isplitl [Pg]; · iexact Pg
      isplitl [C3] <;> iassumption
    iexact HE
  iintro ⟨⟨C2, Hg0, Hg, Z3⟩, HE⟩
  iapply (phase_out st c _ Kt) $$ [Hg0 Hg Ho]
  · isplitl [Hg0]; · iexact Hg0
    isplitl [Hg] <;> iassumption
  iintro ⟨Hg0, Hg, Ho⟩
  iapply (phase_left st K c _ Kt) $$ [C0 A0 C2 A2 Hs Hg0 Hg HE]
  · isplitr [HE]
    · isplitl [C0]; · iexact C0
      isplitl [A0]; · iexact A0
      isplitl [C2]; · iexact C2
      isplitl [A2]; · iexact A2
      isplitl [Hs]; · iexact Hs
      isplitl [Hg0] <;> iassumption
    iexact HE
  unfold env
  iintro ⟨⟨Bs, Bg, Z0, Z2⟩, #HR, -, HO⟩
  imod (close_unused st K c 0 0 (hu 0 (by decide))) $$ [A00] with Z00
  · isplitr; · iexact HR
    iexact A00
  imod (close_unused st K c 1 0 (hu 1 (by decide))) $$ [A10] with Z10
  · isplitr; · iexact HR
    iexact A10
  imod (close_unused st K c 2 0 (hu 2 (by decide))) $$ [A20] with Z20
  · isplitr; · iexact HR
    iexact A20
  imod (close_unused st K c 3 c hu3) $$ [A3c] with Z3c
  · isplitr; · iexact HR
    iexact A3c
  rw [Prog.pure_eq_ret, wp_ret]; imodintro
  iapply Hk
  isplitr [HO Hx H1 H2 Ho]
  · isplitl [Bs Bg Hv]
    · isplitl [Bs]; · iexact Bs
      isplitl [Hv]; · iexists (partsOf st c : (cc0_scratch1 : Ref sig .tc).ty.Contents (Elt F)); iexact Hv
      iexact Bg
    isplitl [Zb]; · iexact Zb
    isplitl [Z00 Z0]
    · isplitl [Z00] <;> iassumption
    isplitl [Z10 Z1]
    · isplitl [Z10] <;> iassumption
    isplitl [Z20 Z2]
    · isplitl [Z20] <;> iassumption
    isplitl [Z3c] <;> iassumption
  isplitl [HO]; · iexact HO
  isplitl [Hx]; · iexact Hx
  isplitl [H1]; · iexact H1
  isplitl [H2] <;> iassumption

end Cert.Exchange

end
-- ==== Proof.Data.lean ====
/- The kernel at its one grid point: what it finds in its windows, what it leaves there, and that its body does so. -/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The memory a run starts from: every counter at zero. -/
abbrev σ₀ : MemSt nD τ sig (Elt F) := ⟨m, fun _ => 0, ρ⟩

/-- The operands device `c` finds staged. -/
def xOf (c : Dev nD) : (cc0_stg0_0 : Ref sig .tc).ty.Contents (Elt F) := (win0_0.blk (0 : Fin 1)).view.read (Elt F) (m ((c : Thread nD τ).loc main_arg0))
def w1Of (c : Dev nD) : (cc0_stg1_0 : Ref sig .tc).ty.Contents (Elt F) := (win0_1.blk (0 : Fin 1)).view.read (Elt F) (m ((c : Thread nD τ).loc main_arg1))
def w2Of (c : Dev nD) : (cc0_stg2_0 : Ref sig .tc).ty.Contents (Elt F) := (win0_2.blk (0 : Fin 1)).view.read (Elt F) (m ((c : Thread nD τ).loc main_arg2))

/-- What device `c` sends: its partial product. -/
def stOf (c : Dev nD) : (cc0_scratch0 : Ref sig .tc).ty.Contents (Elt F) := k0_pay2 (k0_pay1 (xOf m c) (w1Of m c) (w2Of m c))
/-- What every device ends with. -/
def outOf : (cc0_stg3_0 : Ref sig .tc).ty.Contents (Elt F) := k0_pay5 (gathered (stOf m))

/-! ## The pipeline's data -/

/-- What device `c`'s body starts from, at some names of the counters' invariants. -/
def start (c : Dev nD) : sProp 𝕄 := iprop((∃ K, records (stOf m) K ∗ linear c) ∗ creds c ∗ levAts L lv)

def dats (_ : Fin 1) (c : Dev nD) : Dat τ (Elt F) Unit ℕ UU ℕ cfg0 c where
  A w := (σ₀ m ρ).mem ((cfg0.win w).arr.view.loc (c : Thread nD τ))
  after w _ := match w with
    | ⟨0, _⟩ => xOf m c
    | ⟨1, _⟩ => w1Of m c
    | ⟨2, _⟩ => w2Of m c
    | ⟨3, _⟩ => outOf m
  Φ t := match t with
    | ⟨0, _⟩ => iprop(start m c ∗ bufs c)
    | ⟨_ + 1, _⟩ => iprop(bufs c ∗ zeros c)
  q _ := fullShare
  owed t := match t with
    | ⟨0, _⟩ => O₀ c
    | ⟨_ + 1, _⟩ => 0

omit [FloatOps F] in
/-- Owning a whole buffer with given contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre (c : Dev nD) : sProp 𝕄 :=
  iprop((start m c ∗ bufs c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it takes back. -/
def bodyPost (c : Dev nD) : sProp 𝕄 :=
  iprop((bufs c ∗ zeros c) ∗ (dats m ρ 0 c).owesAt () t0_0.succ
    ∗ stg c cc0_stg0_0 (xOf m c) ∗ stg c cc0_stg1_0 (w1Of m c) ∗ stg c cc0_stg2_0 (w2Of m c) ∗ stg c cc0_stg3_0 (outOf m))

/-- At the pipeline's one point the body, from what it is handed, ends with what is taken back. -/
theorem body_at_point (c : Dev nD) : bodyPre m ρ c ⊢ WP c loops (fun _ => bodyPost m ρ c) := by
  have hb0 (d) : (dats m ρ 0 c).before (0 : Fin 4) t0_0 d = xOf m c := by unfold Dat.before; rw [if_pos (fetch0_0 t0_0)]; rfl
  have hb1 (d) : (dats m ρ 0 c).before (1 : Fin 4) t0_0 d = w1Of m c := by unfold Dat.before; rw [if_pos (fetch0_1 t0_0)]; rfl
  have hb2 (d) : (dats m ρ 0 c).before (2 : Fin 4) t0_0 d = w2Of m c := by unfold Dat.before; rw [if_pos (fetch0_2 t0_0)]; rfl
  unfold bodyPre start Dat.owesAt Pipeline.owesWithin
  rw [show (dats m ρ 0 c).owed t0_0.castSucc = O₀ c from rfl]
  iintro ⟨⟨⟨⟨%K, #HR, Hl⟩, Hc, #Hlev⟩, Hb⟩, ⟨%W, %hW, HO⟩, ⟨%d0, %g0, %hg0, Hx⟩, ⟨%d1, %g1, %hg1, H1⟩, ⟨%d2, %g2, %hg2, H2⟩, ⟨%d3, %g3, %hg3, Ho⟩⟩
  obtain rfl := hg0.trans (hb0 d0)
  obtain rfl := hg1.trans (hb1 d1)
  obtain rfl := hg2.trans (hb2 d2)
  iapply (body_run (stOf m) K c (xOf m c) (w1Of m c) (w2Of m c) rfl fun _ => bodyPost m ρ c) $$ [Hl Hc Hb HO Hx H1 H2 Ho]
  · isplitl [Hl Hc Hb]
    · isplitl [Hl]; · iexact Hl
      isplitl [Hc] <;> iassumption
    isplitl [HO]
    · unfold env owesW
      isplitr; · iexact HR
      isplitr; · iexact Hlev
      iexists W; iexact HO
    isplitl [Hx]; · iexact Hx
    isplitl [H1]; · iexact H1
    isplitl [H2]; · iexact H2
    iexists g3; iexact Ho
  unfold owesW
  iintro ⟨Hp, ⟨%W', HO⟩, Hx, H1, H2, Ho⟩
  unfold bodyPost Dat.owesAt Pipeline.owesWithin
  rw [show (dats m ρ 0 c).owed t0_0.succ = 0 from rfl]
  isplitl [Hp]; · iexact Hp
  isplitl [HO]
  · iexists W'
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  isplitl [H2]
  · iexists _; isplitr; · (ipureintro; rfl)
    iexact H2
  iexists _; isplitr; · (ipureintro; rfl)
  iexact Ho

set_option maxRecDepth 65536 in
/-- The printed body turns what the pipeline hands it into what the pipeline takes back. -/
theorem body_obligation (c : Dev nD) : BodyObligation (dats (F := F) m ρ 0 c) (defs₀ (F := F)) 𝒱₀ () Set.univ := fun t => by
  obtain rfl : t = t0_0 := fin_N0 t
  rw [bigSep_W0, bigSep_W0]
  simp only [owns_whole]
  show bodyPre m ρ c ⊢ WP c (cc0_body (F := F) xM (Memref.isWhole_whole _) w1M (Memref.isWhole_whole _) w2M (Memref.isWhole_whole _)
    oM (Memref.isWhole_whole _) sM (Memref.isWhole_whole _) vM (Memref.isWhole_whole _) gM (Memref.isWhole_whole _)
    cc0_scratch3 cc0_scratch4 cc0_scratch5 cc0_scratch6) (fun _ => bodyPost m ρ c)
  rw [body_eq_loops]
  exact body_at_point m ρ c

end Cert.Exchange

end
-- ==== Proof.Run.lean ====
/- The launch: the counters' records made and dealt, the credits counted, and the run of the whole program. -/
module

public import proofs.«01_k».proof.Proof.Data
public import Idealize.ShloMosaic.Adequacy
public import Idealize.ShloMosaic.Lib.Quiescent
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The launch's counters -/

/-- The kernel's own semaphores: the four arrays. -/
abbrev osem (p : Fin 4 × Dev nD) : SemLoc sig := csem (.inr p)

/-- The kernel's semaphores are scoped to it. -/
theorem own_scoped : ∀ p, (osem p).isScoped .tc = true := by decide +kernel
/-- The pipeline's semaphores are the first four. -/
theorem staged_low : ∀ (w : Fin 4) (s : Fin (spec0 w).nbuf), ((spec0 w).sem s).val < 4 := by decide +kernel
/-- The kernel's semaphores are different from each other and from the pipeline's. -/
theorem own_sems : Pipeline.OwnSemFacts cfg0.spec osem :=
  ⟨own_scoped, fun p q h => Sum.inr.inj (csem_inj h), fun p w s h => by
    have h1 := congrArg Fin.val (SemLoc.dma.inj h)
    have h2 : 4 + 32 * p.1.val + p.2.val = ((spec0 w).sem s).val := h1
    have h3 := staged_low w s
    omega⟩

/-- Every array of the call is owned whole. -/
theorem share_full (c : Dev nD) (w : Fin cfg0.W) : (dats m ρ 0 c).share w = fullShare := by unfold Dat.share; split <;> rfl

def counterOf : Dev nD × CK ↪ GSem nD τ sig :=
  ⟨fun p => cellAt p.1 p.2, fun p q h => Prod.ext (cellAt_inj h).1 (cellAt_inj h).2⟩
def ticketOf : (Dev nD × CK) × Fin 31 ↪ GSem nD τ sig × ℕ × Fin 31 :=
  ⟨fun p => (counterOf p.1, 0, p.2), fun p q h => Prod.ext (counterOf.injective (congrArg (fun x => x.1) h)) (congrArg (fun x => x.2.2) h)⟩

def counters : Finset (GSem nD τ sig) := Finset.univ.map counterOf
def tickets : Finset (GSem nD τ sig × ℕ × Fin 31) := Finset.univ.map ticketOf

def u₀ : UU := (initOf (Pipeline.cells cfgs cellOf_inj) (Pipeline.launchToks cfgs cellOf_inj), initOf counters tickets)

/-- The tokens of the contributions to device `c`'s counters. -/
def minted (c : Dev nD) : sProp 𝕄 := bigSep Finset.univ fun k : CK => bigSep Finset.univ fun d : Fin 31 => dutyTok ER (cellAt c k) 0 d

/-- What device `c` is dealt first: its counters' first states, its positions, the tokens of its own counters. -/
def G (c : Dev nD) : sProp 𝕄 :=
  iprop((bigSep Finset.univ fun k : CK => roundState ER (sched (stOf m)) (cellAt c k) 0)
    ∗ ((bigSep Finset.univ fun k : CK => atPos ER (cellAt c k) 0 ∅ 0) ∗ (bigSep Finset.univ fun k : CK => reached ER (cellAt c k) 0)) ∗ minted c)
/-- What it has once the records are made. -/
def G' (c : Dev nD) : sProp 𝕄 := iprop(∃ K, records (stOf m) K ∗ linear c)

/-- The initial state of the protocol gives every device what it is dealt first. -/
theorem dealt_first : BI.own (ER (initOf counters tickets)) ⊢ (|==> bigSep Finset.univ (G m) : sProp 𝕄) := by
  have hX (Φ : GSem nD τ sig → sProp 𝕄) : bigSep counters Φ = bigSep Finset.univ fun c : Dev nD => bigSep Finset.univ fun k : CK => Φ (cellAt c k) := by
    unfold counters; rw [bigSep_map, bigSep_univ_prod]; rfl
  have hT : bigSep tickets (fun x => (dutyTok ER x.1 x.2.1 x.2.2 : sProp 𝕄)) = bigSep Finset.univ fun c : Dev nD => minted c := by
    unfold tickets; rw [bigSep_map, bigSep_univ_prod, bigSep_univ_prod]; rfl
  iintro HX
  imod (Rounds.fund ER (sched (stOf m)) counters tickets) $$ HX with ⟨Hst, Hr, Hat, Htok⟩
  imodintro
  ihave Hst := (Entails.of_eq (hX fun g => roundState ER (sched (stOf m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The records -/

omit [FloatOps F] in
/-- The one semaphore that outlives the kernel is the barrier. -/
theorem barrier_unscoped (c : Dev nD) : (unscopedSems0 c : sProp 𝕄) = semVal (barC c) 0 := by
  unfold unscopedSems0; rw [bigSep_eq_bigSepL_of_eq [SemLoc.reg barS] (by decide +kernel) (by decide)]; rfl

omit [FloatOps F] in
/-- The kernel's semaphores and the barrier are a device's counters. -/
theorem zeros_eq (c : Dev nD) :
    zeros c = (iprop(unscopedSems0 c ∗ Pipeline.ownSems0 (Ix := Unit) (Name := ℕ) (U := UU) (Lvl := ℕ) (Val := Elt F) (τ := τ) osem c) : sProp 𝕄) := by
  unfold zeros
  rw [barrier_unscoped, bigSep_univ_sum, bigSep_univ_eq_bigSepL [()] (by decide) (by decide), bigSepL_singleton]
  rfl

/-- From counters at zero a device makes the invariants of its counters. -/
theorem made (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched (stOf m)) κ (cellAt c k)))
          ∗ ((bigSep Finset.univ fun k : CK => atPos ER (cellAt c k) 0 ∅ 0) ∗ (bigSep Finset.univ fun k : CK => reached ER (cellAt c k) 0)) ∗ minted c) := by
  have hinv : iprop(zeros c ∗ bigSep Finset.univ fun k : CK => roundState ER (sched (stOf m)) (cellAt c k) 0)
      ⊢ (|={Set.univ}=> bigSep Finset.univ fun k : CK => iprop(∃ κ : ℕ, cellInv ER (sched (stOf m)) κ (cellAt c k)) : sProp 𝕄) := by
    unfold zeros
    rw [← bigSep_sep']
    exact (bigSep_mono fun k _ => (Rounds.body_intro ER (sched (stOf m)) (cellAt c k)).trans inv_alloc).trans (bigSep_fupd _ _)
  unfold G
  iintro ⟨Hos, Hus, Hst, Hat, Htok⟩
  imod hinv $$ [Hos Hus Hst] with Hinv
  · isplitr [Hst]
    · iapply (Entails.of_eq (zeros_eq (F := F) c).symm)
      isplitl [Hus] <;> iassumption
    iexact Hst
  imodintro
  isplitl [Hinv]; · iexact Hinv
  isplitl [Hat]; · iexact Hat
  iexact Htok

/-! ## The tokens, dealt to the devices that contribute -/

omit [FloatOps F] in
/-- Over all devices and distances it is the same to name a pair by where it starts or by where it ends. -/
theorem turned (Φ : Dev nD → Fin 31 → sProp 𝕄) : (bigSep Finset.univ fun c => bigSep Finset.univ fun r => Φ c r)
    = bigSep Finset.univ fun c => bigSep Finset.univ fun r => Φ (fwd c r) r := by
  rw [BI.bigSep_univ_comm, BI.bigSep_univ_comm fun c r => Φ (fwd c r) r]
  exact bigSep_congr fun r _ => bigSep_univ_equiv (turn r) fun c => Φ c r

omit [FloatOps F] in
/-- Of a device's tokens, those of the counters that are used. -/
theorem minted_used (c : Dev nD) : (minted c : sProp 𝕄) ⊢ iprop((bigSep Finset.univ fun r => dutyTok ER (barC c) 0 r)
    ∗ (bigSep Finset.univ fun r : Fin 31 => dutyTok ER (arrC c 0 r.succ) 0 0) ∗ (bigSep Finset.univ fun r : Fin 31 => dutyTok ER (arrC c 1 r.succ) 0 0)
    ∗ (bigSep Finset.univ fun r : Fin 31 => dutyTok ER (arrC c 2 r.succ) 0 0) ∗ (bigSep Finset.univ fun r : Fin 31 => dutyTok ER (arrC c 3 (bwd c r)) 0 0)) := by
  have one (k : CK) : (bigSep Finset.univ fun d : Fin 31 => (dutyTok ER (cellAt c k) 0 d : sProp 𝕄)) ⊢ dutyTok ER (cellAt c k) 0 0 := bigSep_elim (Finset.mem_univ 0)
  unfold minted
  rw [counters_split c]
  have drop (P : sProp 𝕄) (k : Fin 31 → CK) : iprop(P ∗ bigSep Finset.univ fun r => bigSep Finset.univ fun d : Fin 31 => (dutyTok ER (cellAt c (k r)) 0 d : sProp 𝕄))
      ⊢ bigSep Finset.univ fun r => (dutyTok ER (cellAt c (k r)) 0 0 : sProp 𝕄) := sep_elim_right.trans (bigSep_mono fun r _ => one (k r))
  exact BI.sep_mono (BI.Entails.refl _) (BI.sep_mono (drop _ _) (BI.sep_mono (drop _ _) (BI.sep_mono (drop _ _) (drop _ _))))

omit [FloatOps F] in
/-- The tokens of all counters are dealt to the devices that contribute. -/
theorem dealt : (bigSep Finset.univ fun c : Dev nD => (minted c : sProp 𝕄)) ⊢ bigSep Finset.univ fun c : Dev nD => payToks c := by
  refine (show _ ⊢ _ from bigSep_mono fun c _ => minted_used c).trans (Entails.of_eq ?_)
  unfold payToks
  simp only [bigSep_sep']
  rw [turned fun c r => dutyTok ER (barC c) 0 r, turned fun c r => dutyTok ER (arrC c 1 r.succ) 0 0, turned fun c r => dutyTok ER (arrC c 3 (bwd c r)) 0 0]
  simp only [bwd_fwd]

omit [FloatOps F] in
/-- What each device can do with a shared fact, all can do with it. -/
theorem with_shared {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The invariants of all devices together become records that each device holds. -/
theorem shared : (bigSep Finset.univ fun c : Dev nD => iprop((bigSep Finset.univ fun k : CK => iprop(∃ κ : ℕ, cellInv ER (sched (stOf m)) κ (cellAt c k)))
      ∗ ((bigSep Finset.univ fun k : CK => atPos ER (cellAt c k) 0 ∅ 0) ∗ (bigSep Finset.univ fun k : CK => reached ER (cellAt c k) 0)) ∗ minted c) : sProp 𝕄)
    ⊢ bigSep Finset.univ (G' m) := by
  simp only [bigSep_sep']
  rw [← bigSep_univ_prod (fun p : Dev nD × CK => iprop(∃ κ : ℕ, cellInv ER (sched (stOf m)) κ (cellAt p.1 p.2))),
    ← bigSep_univ_prod (fun p : Dev nD × CK => (reached ER (cellAt p.1 p.2) 0 : sProp 𝕄))]
  iintro ⟨HI, ⟨Hat, #HR⟩, Htok⟩
  ihave HK := (BI.bigSep_exists_pi Finset.univ (fun (p : Dev nD × CK) (κ : ℕ) => (cellInv ER (sched (stOf m)) κ (cellAt p.1 p.2) : sProp 𝕄))) $$ HI
  icases HK with ⟨%K, #HI⟩
  ihave Htok := (dealt (F := F)) $$ Htok
  iapply (with_shared (R := records (stOf m) K) (Φ := fun c => linear c) fun c => exists_intro (Φ := fun K => iprop(records (stOf m) K ∗ linear c)) K)
  isplitr
  · unfold records; isplitl; · iexact HI
    iexact HR
  unfold linear
  rw [bigSep_sep']
  isplitl [Hat]; · iexact Hat
  iexact Htok

/-- Over all devices, the counters at zero become the records and each device's own part. -/
theorem all_made : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => made m c).trans (bigSep_fupd _ _)).trans (BI.fupd_mono (shared m))

/-! ## The credits -/

/-- What is owed to a counter is the sum over all places. -/
theorem owedL_places (f : Fin 31 → CellTallies nD τ sig Unit) (g : GSem nD τ sig) : owedL f places g () = ∑ r, f r g () := by
  have h : ∀ rs : List (Fin 31), owedL f rs g () = (rs.map fun r => f r g ()).sum := by
    intro rs
    induction rs with
    | nil => rfl
    | cons r rs ih => rw [owedL_cons, Pi.add_apply, Finsupp.add_apply, ih, List.map_cons, List.sum_cons]
  rw [h, ← List.sum_toFinset _ (by decide : places.Nodup)]
  exact Finset.sum_congr (by decide) fun _ _ => rfl

/-- If every device owes `n` to a counter of each other device, a counter is owed `n` per place it stands at. -/
theorem owed_count (X : Dev nD → Fin 31 → GSem nD τ sig) (hX : ∀ {d d' r r'}, X d r = X d' r' → d = d') (n : ℕ) (c : Dev nD) (s : Fin 31) :
    (∑ d : Dev nD, owedL (fun r => tallyAt (X (fwd d r) r) () n) places (X c s) ()) = ∑ r, if X c s = X c r then n else 0 := by
  rw [Finset.sum_congr rfl fun d _ => owedL_places _ _, Finset.sum_comm]
  refine Finset.sum_congr rfl fun r _ => ?_
  rw [show (∑ d : Dev nD, (tallyAt (X (fwd d r) r) () n : CellTallies nD τ sig Unit) (X c s) ()) = ∑ d : Dev nD, (tallyAt (X d r) () n : CellTallies nD τ sig Unit) (X c s) ()
      from (turn r).sum_comp fun d => (tallyAt (X d r) () n : CellTallies nD τ sig Unit) (X c s) (),
    Finset.sum_eq_single c (fun d _ hd => by rw [tallyAt_apply, if_neg fun h => hd (hX h.1).symm]) fun h => absurd (Finset.mem_univ c) h, tallyAt_apply]
  simp only [and_true]

/-- The launch credits a counter with what all devices owe it. -/
theorem credit_of (O : Dev nD → CellTallies nD τ sig Unit) (g : GSem nD τ sig) (n : ℕ) (h : (∑ d : Dev nD, O d g ()) = n) :
    tallyOn g (launchCredit (Pipeline.owing O) 0 g) = (tallyAt g () n : CellTallies nD τ sig Unit) := by
  unfold tallyAt
  refine congrArg _ (Finsupp.ext fun u => ?_)
  cases u
  rw [Pipeline.launchCredit_owing, h, Finsupp.single_eq_same]

omit [FloatOps F] in
/-- The launch's credits include those of a family of counters. -/
theorem cred_many (O : Dev nD → CellTallies nD τ sig Unit) (c : Dev nD) (k : Fin 31 → CK) (hk : Function.Injective k) (n : ℕ)
    (h : ∀ s, (∑ d : Dev nD, O d (cellAt c (k s)) ()) = n) :
    (Pipeline.launchCred O c : sProp 𝕄) ⊢ bigSep Finset.univ fun s => cred (tallyAt (cellAt c (k s)) () n) := by
  unfold Pipeline.launchCred
  refine (show _ ⊢ _ from bigSep_subset (Finset.subset_univ (Finset.univ.map ⟨fun s => csem (k s), csem_inj.comp hk⟩))).trans (Entails.of_eq ?_)
  rw [bigSep_map]
  exact bigSep_congr fun s _ => congrArg _ (credit_of O (cellAt c (k s)) n (h s))

omit [FloatOps F] in
/-- The launch's credits include that of one counter. -/
theorem cred_one (O : Dev nD → CellTallies nD τ sig Unit) (c : Dev nD) (k : CK) (n : ℕ) (h : (∑ d : Dev nD, O d (cellAt c k) ()) = n) :
    (Pipeline.launchCred O c : sProp 𝕄) ⊢ cred (tallyAt (cellAt c k) () n) :=
  (Pipeline.launchCred_elim O c (csem k)).trans (Entails.of_eq (congrArg _ (credit_of O (cellAt c k) n h)))

/-- All devices together owe each barrier thirty-one units. -/
theorem count_bar (c : Dev nD) : (∑ d : Dev nD, owedL (oBar d) places (barC c) ()) = 31 :=
  (owed_count (fun d _ => barC d) (fun h => (cellAt_inj h).1) 1 c 0).trans (by
    rw [Finset.sum_congr rfl fun r _ => if_pos rfl, Finset.sum_const, smul_eq_mul, Nat.mul_one]
    exact Finset.card_univ.trans (Fintype.card_fin 31))
/-- All devices together owe a counter that one copy signals the units of one chunk. -/
theorem count_own (X : Dev nD → Fin 31 → Dev nD) (a : Fin 4) (hX : ∀ c, Function.Injective (X c)) (c : Dev nD) (s : Fin 31) :
    (∑ d : Dev nD, owedL (fun r => tallyAt (arrC (fwd d r) a (X (fwd d r) r)) () N) places (arrC c a (X c s)) ()) = N :=
  (owed_count (fun d r => arrC d a (X d r)) (fun h => (cellAt_inj h).1) N c s).trans (by
    rw [Finset.sum_eq_single s (fun r _ hr => if_neg fun h => hr (hX c (congrArg Prod.snd (Sum.inr.inj (cellAt_inj h).2)).symm)) fun h => absurd (Finset.mem_univ s) h,
      if_pos rfl])
/-- All devices together owe the counter of an arriving part the units of one chunk. -/
theorem count_part (c : Dev nD) (s : Fin 31) : (∑ d : Dev nD, owedL (oRs d) places (arrC c 1 s.succ) ()) = N :=
  count_own (fun _ r => r.succ) 1 (fun _ => Fin.succ_injective 31) c s
/-- All devices together owe the counter of an arriving sum the units of one chunk. -/
theorem count_sum (c : Dev nD) (s : Fin 31) : (∑ d : Dev nD, owedL (oAg d) places (arrC c 3 (bwd c s)) ()) = N := by
  refine Eq.trans (Finset.sum_congr rfl fun d _ => ?_) (count_own bwd 3 bwd_inj c s)
  refine congrArg (fun f => owedL f places (arrC c 3 (bwd c s)) ()) (funext fun r => ?_)
  unfold oAg
  rw [bwd_fwd]

omit [FloatOps F] in
/-- The launch's credits are those a device's waits need. -/
theorem creds_intro (c : Dev nD) : (Pipeline.launchCred O₀ c : sProp 𝕄) ⊢ creds c := by
  have h : (Pipeline.launchCred O₀ c : sProp 𝕄) = iprop(Pipeline.launchCred (fun d => owedL (oBar d) places) c
      ∗ Pipeline.launchCred (fun d => owedL (oRs d) places) c ∗ Pipeline.launchCred (fun d => owedL (oAg d) places) c) := by
    rw [← Pipeline.launchCred_add, ← Pipeline.launchCred_add]; rfl
  rw [h]
  unfold creds
  exact BI.sep_mono (cred_one _ c (.inl ()) 31 (count_bar c)) (BI.sep_mono
    (cred_many _ c (fun r => .inr (1, r.succ)) (fun r s h => Fin.succ_injective 31 (congrArg Prod.snd (Sum.inr.inj h))) N (count_part c))
    (cred_many _ c (fun r => .inr (3, bwd c r)) (fun r s h => bwd_inj c (congrArg Prod.snd (Sum.inr.inj h))) N (count_sum c)))

/-! ## The run -/

/-- From what the launch gives, a device has what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  iempintro

/-- What a device starts with, and its buffers, are what the body is given before its one point. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs c) from rfl, scopedRest0_eq]
  unfold bufs
  iintro ⟨Hs, -, Hr⟩
  isplitl [Hs] <;> iassumption

/-- What the body leaves gives back the semaphores at zero and the buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bufs c ∗ zeros c) from rfl, scopedRest0_eq, zeros_eq]
  unfold bufs
  iintro ⟨Hb, HU, HO⟩
  isplitl [HU]; · iexact HU
  isplitl [HO] <;> iassumption

/-- The pipeline's own waits are below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (kindOf_staging _ (staged_low w s)) _ (by
      rcases t with ⟨_ | _, ht⟩
      · exact Or.inl rfl
      · exact Or.inr rfl)

/-- What array `w` of device `c` holds at the end. -/
def finalOf (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalOf m ρ c w

set_option maxRecDepth 65536 in
/-- From any memory with every counter at zero, at any float values: every weakly fair execution of the thirty-two
    devices terminates without a fault, the operands and results end as the body leaves them, and every counter is at
    zero again. -/
theorem run_ends : θ_run defs (onTc (τ := τ) (main (F := F))) (σ₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (dealt_first m) $$ HX with HG
      imodintro
      isplitl [HP] <;> iassumption)
    (hglob := all_made m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- At the end `x` is as it was. -/
theorem final_x (c : Dev nD) : finalOf m ρ c (0 : Fin 4) = m ((c : Thread nD τ).loc main_arg0) := (dats (F := F) m ρ 0 c).arrAt_in (0 : Fin 4) rfl _
/-- At the end the device's block of `W1` is as it was. -/
theorem final_w1 (c : Dev nD) : finalOf m ρ c (1 : Fin 4) = m ((c : Thread nD τ).loc main_arg1) := (dats (F := F) m ρ 0 c).arrAt_in (1 : Fin 4) rfl _
/-- At the end the device's block of `W2` is as it was. -/
theorem final_w2 (c : Dev nD) : finalOf m ρ c (2 : Fin 4) = m ((c : Thread nD τ).loc main_arg2) := (dats (F := F) m ρ 0 c).arrAt_in (2 : Fin 4) rfl _

/-- The run, at the arrays themselves: the operands unchanged, every counter at zero. -/
theorem run_main : θ_run defs (onTc (τ := τ) (main (F := F))) (σ₀ m ρ) (fun r => (∀ c : Dev nD,
      r.2.mem ((c : Thread nD τ).loc main_v1) = finalOf m ρ c (3 : Fin 4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨h.1 c (3 : Fin 4), (h.1 c (0 : Fin 4)).trans (final_x m ρ c), (h.1 c (1 : Fin 4)).trans (final_w1 m ρ c),
    (h.1 c (2 : Fin 4)).trans (final_w2 m ρ c)⟩, h.2⟩) (run_ends m ρ)

end Cert.Exchange

end
-- ==== Proof.Value.lean ====
/- What the run computes over the extended reals: every device's result is the reference's product. -/
module

public import proofs.«01_k».proof.Proof.Run
public import proofs.«01_k».proof.Proof.Gen.ReferenceIdeal.Read
public import Idealize.ShloMosaic.Lib.Layout
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Exchange

open Cert.KernelIdeal Cert.KernelIdeal.Gen
open Idealize.ShloMosaic Idealize.ShloMosaic.TcCoe
open Idealize.SL.Sem
open Idealize.ShloMosaic.Pipeline
open Idealize.ShloMosaic.ValueIdx
open scoped BigOperators

/-! ## The arrays and the staged buffers -/

section Arrays

variable {F : FTy → Type} [FloatOps F]
variable (m : (ℓ : Loc nD τ sig) → Buf (Elt F) ℓ) (ρ : Dev nD → PrngReg)

/-- Each window's one block is its whole array: what is staged is the operand itself. -/
theorem xOf_eq (c : Dev nD) : xOf m c = m ((c : Thread nD τ).loc main_arg0) := by
  funext i
  unfold xOf
  rw [View.read_apply]
  show m ((c : Thread nD τ).loc main_arg0) _ = _
  congr 1
  funext a
  apply Fin.ext
  match a with
  | ⟨0, _⟩ => show 0 * 512 + 1 * (i 0).val = (i 0).val; omega
  | ⟨1, _⟩ => show 0 * 512 + 1 * (i 1).val = (i 1).val; omega

/-- The block of `W1` the body sees is the device's whole argument. -/
theorem w1Of_eq (c : Dev nD) : w1Of m c = m ((c : Thread nD τ).loc main_arg1) := by
  funext i
  unfold w1Of
  rw [View.read_apply]
  show m ((c : Thread nD τ).loc main_arg1) _ = _
  congr 1
  funext a
  apply Fin.ext
  match a with
  | ⟨0, _⟩ => show 0 * 512 + 1 * (i 0).val = (i 0).val; omega
  | ⟨1, _⟩ => show 0 * 1024 + 1 * (i 1).val = (i 1).val; omega

/-- The block of `W2` the body sees is the device's whole argument. -/
theorem w2Of_eq (c : Dev nD) : w2Of m c = m ((c : Thread nD τ).loc main_arg2) := by
  funext i
  unfold w2Of
  rw [View.read_apply]
  show m ((c : Thread nD τ).loc main_arg2) _ = _
  congr 1
  funext a
  apply Fin.ext
  match a with
  | ⟨0, _⟩ => show 0 * 1024 + 1 * (i 0).val = (i 0).val; omega
  | ⟨1, _⟩ => show 0 * 512 + 1 * (i 1).val = (i 1).val; omega

/-- The result array ends holding what the body leaves in its staged block. -/
theorem final_out (c : Dev nD) : finalOf m ρ c (3 : Fin 4) = outOf m := by
  refine (dats (F := F) m ρ 0 c).arrAt_eq_of_cover (3 : Fin 4) (outOf m) (fun t _ => ?_) fun i => ⟨t0_0, flush0_3 t0_0, ?_⟩
  · obtain rfl : t = t0_0 := fin_N0 t
    funext i
    rw [View.read_apply]
    show outOf m i = outOf m _
    congr 1
    funext a
    apply Fin.ext
    match a with
    | ⟨0, _⟩ => show (i 0).val = 0 * 512 + 1 * (i 0).val; omega
    | ⟨1, _⟩ => show (i 1).val = 0 * 512 + 1 * (i 1).val; omega
  · show i ∈ ((View.whole main_v1).slice (win0_3.rect t0_0)).set
    rw [View.set_slice_whole, Rect.mem_set_unit]
    intro a
    have h0 : (i 0 : Nat) < 512 := (i 0).isLt
    have h1 : (i 1 : Nat) < 512 := (i 1).isLt
    match a with
    | ⟨0, _⟩ => exact ⟨Nat.zero_le _, by show (i 0 : Nat) < 0 * 512 + 512; omega⟩
    | ⟨1, _⟩ => exact ⟨Nat.zero_le _, by show (i 1 : Nat) < 0 * 512 + 512; omega⟩

end Arrays

/-! ## Over the extended reals -/

variable (m : (ℓ : Loc nD τ sig) → Buf (Elt Ideal) ℓ) (ρ : Dev nD → PrngReg)

/-- A hidden layer's element: the positive part of a row times a column. -/
def hidden {n : ℕ} (x : (⟨2, ![512, 512]⟩ : Shape).Idx → EReal) (w : (⟨2, ![512, n]⟩ : Shape).Idx → EReal) (r : Fin 512) (h : Fin n) : EReal :=
  max (∑ k : Fin 512, x (ix2 r k) * w (ix2 k h)) 0

/-- A device's partial product, element by element. -/
theorem partial_apply (x : FVec Ideal S512x512 .f32) (w1 : FVec Ideal S512x1024 .f32) (w2 : FVec Ideal S1024x512 .f32) (r l : Fin 512) :
    k0_pay2 (F := Ideal) (k0_pay1 x w1 w2) (ix2 r l) = ∑ h : Fin 1024, hidden x w1 r h * w2 (ix2 h l) := by
  unfold k0_pay2 k0_pay1
  simp only [shapeCast_self]
  rw [truncf_apply]
  refine (Ideal.matmul_plain_apply none _ _ _ r l).trans ?_
  rw [constant_apply, Ideal.ofBits_zero_f32, zero_add]
  refine Finset.sum_congr rfl fun h _ => ?_
  rw [truncf_apply, truncf_apply, maximumf_apply, broadcast_apply]
  congr 1
  unfold hidden
  congr 1
  · refine (Ideal.matmul_plain_apply none _ _ _ r h).trans ?_
    rw [constant_apply, Ideal.ofBits_zero_f32, zero_add]
    rfl
  · exact Ideal.ofBits_zero_f32

/-- The sum of the thirty-two parts of a chunk, element by element. -/
theorem sum_apply (v : FVec Ideal S32x16x512 .bf16) (y : Fin 16) (l : Fin 512) :
    k0_pay4 (F := Ideal) v (ix3 0 y l) = ∑ d : Fin 32, v (ix3 d y l) := by
  unfold k0_pay4
  dsimp only
  rw [shapeCast_ab_1ab_apply, truncf_apply]
  refine (Ideal.reduceAdd_single (a := (0 : Fin S32x16x512.rank)) reduces_S32x16x512_S16x512 (extf .f32 v bitsLt_bf16_f32) (ix2 y l)).trans ?_
  refine Finset.sum_congr rfl fun d _ => ?_
  rw [extf_apply]
  congr 1
  funext a
  apply Fin.ext
  match a with
  | ⟨0, _⟩ => rfl
  | ⟨1, _⟩ => rfl
  | ⟨2, _⟩ => rfl

/-- The thirty-two chunks as the rows of one matrix. -/
theorem rows_apply (v : FVec Ideal S32x16x512 .bf16) (r l : Fin 512) :
    k0_pay5 (F := Ideal) v (ix2 r l) = v (ix3 ⟨r.val / 16, by omega⟩ ⟨r.val % 16, Nat.mod_lt _ (by decide)⟩ l) := by
  unfold k0_pay5
  refine (shapeCast_apply _ _ _ (ix3 ⟨r.val / 16, by omega⟩ ⟨r.val % 16, Nat.mod_lt _ (by decide)⟩ l) ?_).trans (extf_apply _ _ _)
  rw [Shape.rowMajor_val_three, Shape.rowMajor_val_two]
  show (r.val / 16 * 16 + r.val % 16) * 512 + l.val = r.val * 512 + l.val
  omega

/-- Going back by `d` from a device, for every `d`, meets every device once. -/
theorem sum_back (c : Dev nD) (f : Dev nD → EReal) : ∑ d : Dev nD, f (back c d) = ∑ d : Dev nD, f d :=
  (⟨back c, back c, back_back c, back_back c⟩ : Dev nD ≃ Dev nD).sum_comp f

/-- An element of device `c`'s partial product. -/
def partOf (c : Dev nD) (r l : Fin 512) : EReal := stOf m c (ix2 r l)

/-- The kernel's result is the sum of the devices' partial products. -/
theorem out_apply (r l : Fin 512) : outOf m (ix2 r l) = ∑ c : Dev nD, partOf m c r l := by
  unfold outOf
  refine (rows_apply _ r l).trans ?_
  unfold gathered summed
  refine (sum_apply _ _ _).trans ?_
  refine Eq.trans ?_ (sum_back ⟨r.val / 16, by show _ < 32; omega⟩ fun c => partOf m c r l)
  refine Finset.sum_congr rfl fun d _ => ?_
  unfold partOf partsOf rowIdx
  refine congrArg (fun r' => stOf m _ (ix2 r' l)) ?_
  apply Fin.ext
  show r.val / 16 * 16 + r.val % 16 = r.val
  omega

/-! ## The reference -/

/-- The reference's result, element by element. -/
theorem reference_apply (x : FVec Ideal S512x512 .f32) (w1 : (⟨2, ![512, 32768]⟩ : Shape).Idx → EReal) (w2 : (⟨2, ![32768, 512]⟩ : Shape).Idx → EReal)
    (r l : Fin 512) :
    Cert.ReferenceIdeal.Read.val_main_v3 (F := Ideal) x w1 w2 (ix2 r l) = ∑ h : Fin 32768, hidden x w1 r h * w2 (ix2 h l) := by
  refine (Cert.ReferenceIdeal.Read.val_main_v3_apply x w1 w2 (ix2 r l)).trans (Finset.sum_congr rfl fun h _ => ?_)
  have e0 : Cert.ReferenceIdeal.Read.lidx_main_v3 (ix2 r l) h = ix2 r h := by
    funext a; match a with
    | ⟨0, _⟩ => rfl
    | ⟨1, _⟩ => rfl
  have e1 : Cert.ReferenceIdeal.Read.ridx_main_v3 (ix2 r l) h = ix2 h l := by
    funext a; match a with
    | ⟨0, _⟩ => rfl
    | ⟨1, _⟩ => rfl
  rw [e0, e1, Cert.ReferenceIdeal.Read.val_main_v2_apply, Cert.ReferenceIdeal.Read.val_main_v1_apply, Cert.ReferenceIdeal.Read.val_main_cst_apply,
    Cert.ReferenceIdeal.Read.val_main_v0_apply]
  congr 1
  unfold hidden
  refine congrArg₂ max (Finset.sum_congr rfl fun k _ => ?_) Ideal.ofBits_zero_f32
  refine congrArg₂ (· * ·) (congrArg x ?_) (congrArg w1 ?_)
  · funext a; match a with
    | ⟨0, _⟩ => rfl
    | ⟨1, _⟩ => rfl
  · funext a; match a with
    | ⟨0, _⟩ => rfl
    | ⟨1, _⟩ => rfl

/-- A sum over the hidden layer is the sum over the devices of the sums over their blocks of it. -/
theorem sum_blocks (f : Fin 32768 → EReal) :
    ∑ h : Fin 32768, f h = ∑ c : Fin 32, ∑ h : Fin 1024, f ⟨c.val * 1024 + h.val, by have := c.isLt; have := h.isLt; omega⟩ := by
  rw [← (finProdFinEquiv (m := 32) (n := 1024)).sum_comp f, Fintype.sum_prod_type]
  refine Finset.sum_congr rfl fun c _ => Finset.sum_congr rfl fun h _ => congrArg f (Fin.ext ?_)
  show h.val + 1024 * c.val = c.val * 1024 + h.val
  omega

/-- From blocks of the reference's operands, the kernel's result is the reference's. -/
theorem out_eq_reference (x : FVec Ideal S512x512 .f32) (w1 : (⟨2, ![512, 32768]⟩ : Shape).Idx → EReal) (w2 : (⟨2, ![32768, 512]⟩ : Shape).Idx → EReal)
    (hx : ∀ c : Dev nD, m ((c : Thread nD τ).loc main_arg0) = x)
    (h1 : ∀ c : Dev nD, m ((c : Thread nD τ).loc main_arg1) = Layout.block ⟨2, ![512, 1024]⟩ ⟨2, ![512, 32768]⟩ 1 32 c w1)
    (h2 : ∀ c : Dev nD, m ((c : Thread nD τ).loc main_arg2) = Layout.block ⟨2, ![1024, 512]⟩ ⟨2, ![32768, 512]⟩ 0 32 c w2) :
    outOf m = Cert.ReferenceIdeal.Read.val_main_v3 (F := Ideal) x w1 w2 := by
  funext i
  obtain ⟨r, l, rfl⟩ : ∃ r l : Fin 512, i = ix2 r l := ⟨i 0, i 1, eq_ix2 i⟩
  suffices key : (∑ c : Dev nD, partOf m c r l) = ∑ h : Fin 32768, hidden x w1 r h * w2 (ix2 h l) from
    (out_apply m r l).trans (key.trans (reference_apply x w1 w2 r l).symm)
  rw [sum_blocks]
  refine Finset.sum_congr rfl fun c _ => ?_
  unfold partOf stOf
  rw [xOf_eq, w1Of_eq, w2Of_eq, hx c, h1 c, h2 c]
  refine (partial_apply _ _ _ r l).trans (Finset.sum_congr rfl fun h _ => ?_)
  refine congrArg₂ (· * ·) ?_ ?_
  · unfold hidden
    refine congrArg₂ max (Finset.sum_congr rfl fun k _ => congrArg (x (ix2 r k) * ·) ?_) rfl
    rw [Layout.block_apply]
    congr 1
    funext a; match a with
    | ⟨0, _⟩ => rfl
    | ⟨1, _⟩ => rfl
  · rw [Layout.block_apply]
    congr 1
    funext a; match a with
    | ⟨0, _⟩ => rfl
    | ⟨1, _⟩ => rfl

end Cert.Exchange

end
-- ==== Proof.lean ====
/- The certificate: the three programs' runs end as claimed, and the kernel and the reference agree over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

set_option maxRecDepth 65536 in
/-- The kernel over bit patterns and its idealization have the same body table: the two print one text, -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl

/-- and so the same definitions. -/
theorem defs_eq : Cert.Kernel.defs (F := Bits) = Cert.KernelIdeal.defs (F := Bits) := congrArg (Pipeline.defs _) bodies_eq

/-- The kernel over bit patterns ends, with its operands unchanged and every counter at zero: the idealized kernel's
run is stated over any float values. -/
theorem frame_kernel : Cert.quiescent_Kernel := fun m ρ _ => by
  rw [defs_eq]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.Exchange.run_main (F := Bits) m ρ)

/-- The kernel over extended reals ends, with its operands unchanged and every counter at zero. -/
theorem frame_kernelIdeal : Cert.quiescent_KernelIdeal := fun m ρ _ =>
  (θ_run Cert.KernelIdeal.defs _ _).mono (fun _ h => ⟨fun c => (h.1 c).2, h.2⟩) (Cert.Exchange.run_main (F := Ideal) m ρ)

/-- The reference ends, with its operands unchanged; it has no counters. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From blocks of the reference's operands, every device of the kernel ends with the reference's result. -/
theorem value : Cert.algebraic_KernelIdeal_ReferenceIdeal := fun m ρ m' ρ' _ hagree =>
  ⟨_, (θ_run Cert.KernelIdeal.defs _ _).mono
      (fun _ h c => ⟨((h.1 c).1.trans (Cert.Exchange.final_out m ρ c)).trans
        (Cert.Exchange.out_eq_reference m _ _ _ (fun c => (hagree c).1) (fun c => (hagree c).2.1) (fun c => (hagree c).2.2)), (h.1 c).2⟩)
      (Cert.Exchange.run_main (F := Ideal) m ρ),
    (θ_run Cert.ReferenceIdeal.defs _ _).mono (fun _ h => h 0) (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
